-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16384x128 : Shape := ⟨2, ![16384, 128]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_arg1 : FVec F S16384x128 .f32) (main_v12 : IVec S_ 1) (main_v15 : IVec S16384x128 1) (main_c_5 : IVec S_ 1) : IVec S_ 1 :=
  let main_v16 : IVec S_ 1 := (fun x v => Host.reduce IntOp.andi x v reducesTo_S16384x128_S_d0_1 h_S_) main_v15 main_c_5
  let main_v17 : IVec S_ 1 := andi main_v12 main_v16
  let main_v18 : FVec F S16384x128 .f32 := Host.absf main_arg1
  let main_cst_6 : FVec F S_ .f32 := constant S_ .f32 0x7F800000#32
  let main_v19 : FVec F S16384x128 .f32 := broadcastInDim S16384x128 ![] bcast_S_S16384x128 main_cst_6
  let main_v20 : IVec S16384x128 1 := cmpf .olt main_v18 main_v19
  let main_c_7 : IVec S_ 1 := constantI S_ 1 1#1
  let main_v21 : IVec S_ 1 := (fun x v => Host.reduce IntOp.andi x v reducesTo_S16384x128_S_d0_1 h_S_) main_v20 main_c_7
  let main_v22 : IVec S_ 1 := andi main_v17 main_v21
  main_v22

def fn {F : FTy → Type} [FloatOps F] (main_arg0 : FVec F S16384x128 .f32) (main_arg1 : FVec F S16384x128 .f32) (main_arg2 : IVec S1024 32) (main_arg3 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 16384#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg3 main_v6
  let main_c_3 : IVec S_ 32 := constantI S_ 32 16384#32
  let main_v8 : IVec S1024 32 := broadcastInDim S1024 ![] bcast_S_S1024 main_c_3
  let main_v9 : IVec S1024 1 := cmpi .slt main_arg3 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_v13 : FVec F S16384x128 .f32 := Host.absf main_arg0
  let main_cst : FVec F S_ .f32 := constant S_ .f32 0x7F800000#32
  let main_v14 : FVec F S16384x128 .f32 := broadcastInDim S16384x128 ![] bcast_S_S16384x128 main_cst
  let main_v15 : IVec S16384x128 1 := cmpf .olt main_v13 main_v14
  let main_c_5 : IVec S_ 1 := constantI S_ 1 1#1
  fn_part1 (F := F) main_arg1 main_v12 main_v15 main_c_5
-- ==== Pre_in_range.lean ====
abbrev S16384x128 : Shape := ⟨2, ![16384, 128]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S16384x128 .f32) (main_arg1 : FVec F S16384x128 .f32) (main_arg2 : IVec S1024 32) (main_arg3 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 16384#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg3 main_v6
  let main_c_3 : IVec S_ 32 := constantI S_ 32 16384#32
  let main_v8 : IVec S1024 32 := broadcastInDim S1024 ![] bcast_S_S1024 main_c_3
  let main_v9 : IVec S1024 1 := cmpi .slt main_arg3 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  main_v12
-- ==== Kernel.lean ====
abbrev S16384x128 : Shape := ⟨2, ![16384, 128]⟩
abbrev S1024 : Shape := ⟨1, ![1024]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S128x1024 : Shape := ⟨2, ![128, 1024]⟩
abbrev S1x1 : Shape := ⟨2, ![1, 1]⟩
abbrev S256x128 : Shape := ⟨2, ![256, 128]⟩
abbrev S16x1024 : Shape := ⟨2, ![16, 1024]⟩
abbrev S256 : Shape := ⟨1, ![256]⟩
abbrev S256x1 : Shape := ⟨2, ![256, 1]⟩
abbrev S1x1024 : Shape := ⟨2, ![1, 1024]⟩
abbrev S32x1 : Shape := ⟨2, ![32, 1]⟩
abbrev S32x1024 : Shape := ⟨2, ![32, 1024]⟩
abbrev S256x1024 : Shape := ⟨2, ![256, 1024]⟩
abbrev S272x1024 : Shape := ⟨2, ![272, 1024]⟩
abbrev S6x1024 : Shape := ⟨2, ![6, 1024]⟩
abbrev S10x1024 : Shape := ⟨2, ![10, 1024]⟩
abbrev S1 : Shape := ⟨1, ![1]⟩

abbrev nBuf : Table → Nat
  | .hbm => 15
  | .local .tc .vmem => 12
  | .local .scVector .vmem => 2
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S1024, .i32⟩
  | .hbm, ⟨3, _⟩ => ⟨S1024, .i32⟩
  | .hbm, ⟨4, _⟩ => ⟨S1024x128, .f32⟩
  | .hbm, ⟨5, _⟩ => ⟨S1024x128, .f32⟩
  | .hbm, ⟨6, _⟩ => ⟨S128x1024, .f32⟩
  | .hbm, ⟨7, _⟩ => ⟨S128x1024, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S256x128, .f32⟩
  | .local .tc .vmem, ⟨1, _⟩ => ⟨S256x128, .f32⟩
  | .local .tc .vmem, ⟨2, _⟩ => ⟨S128x1024, .f32⟩
  | .local .tc .vmem, ⟨3, _⟩ => ⟨S128x1024, .f32⟩
  | .local .tc .vmem, ⟨4, _⟩ => ⟨S1x1, .f32⟩
  | .local .tc .vmem, ⟨5, _⟩ => ⟨S16x1024, .f32⟩
  | .local .tc .vmem, ⟨6, _⟩ => ⟨S256x128, .f32⟩
  | .local .tc .vmem, ⟨7, _⟩ => ⟨S256x128, .f32⟩
  | .local .tc .vmem, ⟨8, _⟩ => ⟨S128x1024, .f32⟩
  | .local .tc .vmem, ⟨9, _⟩ => ⟨S128x1024, .f32⟩
  | .local .tc .vmem, ⟨10, _⟩ => ⟨S1x1, .f32⟩
  | .local .tc .vmem, ⟨11, _⟩ => ⟨S16x1024, .f32⟩
  | .local .scVector .vmem, ⟨0, _⟩ => ⟨S32, .i32⟩
  | .local .scVector .vmem, ⟨1, _⟩ => ⟨S32x128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_scratch0 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r1 : BitVec 32 := 0#32
  ![v2.toNat, 0]
abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v6278 : BitVec 1 := Scalar.cmpi .eq arg0 c63_i32
  let v6279 : BitVec 32 := Scalar.extui v6278
  let c0_i32_46 : BitVec 32 := 0#32
  let v6280 : BitVec 1 := Scalar.cmpi .ne v6279 c0_i32_46
  v6280

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v6278 : BitVec 1 := Scalar.cmpi .eq arg0 c63_i32
  let v6279 : BitVec 32 := Scalar.extui v6278
  let c0_i32_46 : BitVec 32 := 0#32
  let v6280 : BitVec 1 := Scalar.cmpi .ne v6279 c0_i32_46
  v6280

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "big" => some ⊤
  | _ => none
-- ==== ReferenceIdeal.lean ====
abbrev S16384x128 : Shape := ⟨2, ![16384, 128]⟩
abbrev S1024 : Shape := ⟨1, ![1024]⟩
abbrev S_ : Shape := ⟨0, ![]⟩
abbrev S1024x1 : Shape := ⟨2, ![1024, 1]⟩
abbrev S1024x128 : Shape := ⟨2, ![1024, 128]⟩
abbrev S1024x1x128 : Shape := ⟨3, ![1024, 1, 128]⟩
abbrev S1x16384x128 : Shape := ⟨3, ![1, 16384, 128]⟩
abbrev S1024x16384x128 : Shape := ⟨3, ![1024, 16384, 128]⟩
abbrev S1024x16384 : Shape := ⟨2, ![1024, 16384]⟩
abbrev S1024x10 : Shape := ⟨2, ![1024, 10]⟩
abbrev S1024x10x1 : Shape := ⟨3, ![1024, 10, 1]⟩
abbrev S1024x10x128 : Shape := ⟨3, ![1024, 10, 128]⟩

abbrev nBuf : Space → Nat
  | .hbm => 102
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x128, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x128, .f32⟩
  | .hbm, ⟨22, _⟩ => ⟨S1024x1x128, .f32⟩
  | .hbm, ⟨23, _⟩ => ⟨S1x16384x128, .f32⟩
  | .hbm, ⟨24, _⟩ => ⟨S1024x16384x128, .f32⟩
  | .hbm, ⟨25, _⟩ => ⟨S1024x16384x128, .f32⟩
  | .hbm, ⟨26, _⟩ => ⟨S1024x16384x128, .f32⟩
  | .hbm, ⟨27, _⟩ => ⟨S1024x16384x128, .f32⟩
  | .hbm, ⟨28, _⟩ => ⟨S_, .f32⟩
  | .hbm, ⟨29, _⟩ => ⟨S1024x16384, .f32⟩
  | .hbm, ⟨30, _⟩ => ⟨S1024x16384, .f32⟩
  | .hbm, ⟨31, _⟩ => ⟨S1024x10, .f32⟩
  | .hbm, ⟨32, _⟩ => ⟨S1024x10, .i32⟩
  | .hbm, ⟨33, _⟩ => ⟨S1024x1x128, .f32⟩
  | .hbm, ⟨34, _⟩ => ⟨S1x16384x128, .f32⟩
  | .hbm, ⟨35, _⟩ => ⟨S1024x16384x128, .f32⟩
  | .hbm, ⟨36, _⟩ => ⟨S1024x16384x128, .f32⟩
  | .hbm, ⟨37, _⟩ => ⟨S1024x16384x128, .f32⟩
  | .hbm, ⟨38, _⟩ => ⟨S1024x16384x128, .f32⟩
  | .hbm, ⟨39, _⟩ => ⟨S_, .f32⟩
  | .hbm, ⟨40, _⟩ => ⟨S1024x16384, .f32⟩
  | .hbm, ⟨41, _⟩ => ⟨S1024x16384, .f32⟩
  | .hbm, ⟨42, _⟩ => ⟨S1024x10, .f32⟩
  | .hbm, ⟨43, _⟩ => ⟨S1024x10, .i32⟩
  | .hbm, ⟨44, _⟩ => ⟨S_, .i32⟩
  | .hbm, ⟨45, _⟩ => ⟨S1024x10, .i32⟩
  | .hbm, ⟨46, _⟩ => ⟨S1024x10, .i1⟩
  | .hbm, ⟨47, _⟩ => ⟨S_, .i32⟩
  | .hbm, ⟨48, _⟩ => ⟨S1024x10, .i32⟩
  | .hbm, ⟨49, _⟩ => ⟨S1024x10, .i32⟩
  | .hbm, ⟨50, _⟩ => ⟨S1024x10, .i32⟩
  | .hbm, ⟨51, _⟩ => ⟨S1024x10x1, .i32⟩
  | .hbm, ⟨52, _⟩ => ⟨S1024x10x128, .f32⟩
  | .hbm, ⟨53, _⟩ => ⟨S_, .i32⟩
  | .hbm, ⟨54, _⟩ => ⟨S1024x10, .i32⟩
  | .hbm, ⟨55, _⟩ => ⟨S1024x10, .i1⟩
  | .hbm, ⟨56, _⟩ => ⟨S_, .i32⟩
  | .hbm, ⟨57, _⟩ => ⟨S1024x10, .i32⟩
  | .hbm, ⟨58, _⟩ => ⟨S1024x10, .i32⟩
  | .hbm, ⟨59, _⟩ => ⟨S1024x10, .i32⟩
  | .hbm, ⟨60, _⟩ => ⟨S1024x10x1, .i32⟩
  | .hbm, ⟨61, _⟩ => ⟨S1024x10x128, .f32⟩
  | .hbm, ⟨62, _⟩ => ⟨S1024x128, .f32⟩
  | .hbm, ⟨63, _⟩ => ⟨S1024x128, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024x1x128, .f32⟩
  | .hbm, ⟨70, _⟩ => ⟨S1024x10x128, .f32⟩
  | .hbm, ⟨71, _⟩ => ⟨S1024x10x128, .f32⟩
  | .hbm, ⟨72, _⟩ => ⟨S1024x10x128, .f32⟩
  | .hbm, ⟨73, _⟩ => ⟨S_, .f32⟩
  | .hbm, ⟨74, _⟩ => ⟨S1024x10, .f32⟩
  | .hbm, ⟨75, _⟩ => ⟨S1024x10, .f32⟩
  | .hbm, ⟨76, _⟩ => ⟨S1024x1, .f32⟩
  | .hbm, ⟨77, _⟩ => ⟨S1024x10, .f32⟩
  | .hbm, ⟨78, _⟩ => ⟨S1024x10, .f32⟩
  | .hbm, ⟨79, _⟩ => ⟨S_, .f32⟩
  | .hbm, ⟨80, _⟩ => ⟨S1024x10, .f32⟩
  | .hbm, ⟨81, _⟩ => ⟨S1024x10, .f32⟩
  | .hbm, ⟨82, _⟩ => ⟨S_, .f32⟩
  | .hbm, ⟨83, _⟩ => ⟨S_, .f32⟩
  | .hbm, ⟨84, _⟩ => ⟨S1024x1x128, .f32⟩
  | .hbm, ⟨85, _⟩ => ⟨S1024x10x128, .f32⟩
  | .hbm, ⟨86, _⟩ => ⟨S1024x10x128, .f32⟩
  | .hbm, ⟨87, _⟩ => ⟨S1024x10x128, .f32⟩
  | .hbm, ⟨88, _⟩ => ⟨S_, .f32⟩
  | .hbm, ⟨89, _⟩ => ⟨S1024x10, .f32⟩
  | .hbm, ⟨90, _⟩ => ⟨S1024x10, .f32⟩
  | .hbm, ⟨91, _⟩ => ⟨S1024x1, .f32⟩
  | .hbm, ⟨92, _⟩ => ⟨S1024x10, .f32⟩
  | .hbm, ⟨93, _⟩ => ⟨S1024x10, .f32⟩
  | .hbm, ⟨94, _⟩ => ⟨S_, .f32⟩
  | .hbm, ⟨95, _⟩ => ⟨S1024x10, .f32⟩
  | .hbm, ⟨96, _⟩ => ⟨S1024x10, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_values_4 : Ref sig .tc := ⟨.hbm, 42, rfl⟩
abbrev main_indices_5 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Proof.Spec.lean ====
/-
  What one grid point of the distance-and-selection kernel computes, written compactly over any
  float interpretation `F`: the distances of one block of 256 keys to the 1024 queries, the ten
  smallest values of a column, and the loss read off the ten smallest at the end.
-/
module

public import proofs.«01_k».proof.KernelIdeal

@[expose] public section

noncomputable section

namespace Cert.Proof.Side

open Idealize.ShloMosaic Cert.KernelIdeal

variable {F : FTy → Type} [FloatOps F]

/-! ## The distances of a block -/

theorem slKey (d : ℕ) (h : d < 128) : S32x128.Slices ![0, d] S32x1 :=
  ⟨rfl, fun a => match a with | 0 => Nat.le_refl 32 | 1 => (by show d + 1 ≤ 128; omega)⟩

theorem slQuery (d : ℕ) (h : d < 128) : S128x1024.Slices ![d, 0] S1x1024 :=
  ⟨rfl, fun a => match a with | 0 => (by show d + 1 ≤ 128; omega) | 1 => Nat.le_refl 1024⟩

theorem slChunk (k : ℕ) (h : k < 8) : S256x128.Slices ![32 * k, 0] S32x128 :=
  ⟨rfl, fun a => match a with | 0 => (by show 32 * k + 32 ≤ 256; omega) | 1 => Nat.le_refl 128⟩

theorem bcKey : S32x1.Broadcasts S32x1024 := by decide
theorem bcQuery : S1x1024.Broadcasts S32x1024 := by decide

/-- Coordinate `d`: the smaller of a key's and a query's, for 32 keys and all queries. -/
def lane (q : FVec F S128x1024 .f32) (ch : FVec F S32x128 .f32) (d : ℕ) (h : d < 128) : FVec F S32x1024 .f32 :=
  minimumf (broadcastTo S32x1024 (extractStridedSlice S32x1 ![0, d] ch (slKey d h)) bcKey)
    (broadcastTo S32x1024 (extractStridedSlice S1x1024 ![d, 0] q (slQuery d h)) bcQuery)

/-- The coordinates up to `d`, added in order. -/
def laneSum (q : FVec F S128x1024 .f32) (ch : FVec F S32x128 .f32) : (d : ℕ) → d < 128 → FVec F S32x1024 .f32
  | 0, h => lane q ch 0 h
  | d + 1, h => addf (laneSum q ch d (Nat.lt_of_succ_lt h)) (lane q ch (d + 1) h)

/-- Rows `32 k … 32 k + 31` of the block. -/
def chunk (b : FVec F S256x128 .f32) (k : ℕ) (h : k < 8) : FVec F S32x128 .f32 :=
  extractStridedSlice S32x128 ![32 * k, 0] b (slChunk k h)

theorem catChunks : Shape.Concatenates [S32x1024, S32x1024, S32x1024, S32x1024, S32x1024, S32x1024, S32x1024, S32x1024] S256x1024 0 := by
  decide

/-- The sums of the smaller coordinates, the block's eight chunks one under another. -/
def mins (b : FVec F S256x128 .f32) (q : FVec F S128x1024 .f32) : FVec F S256x1024 .f32 :=
  concatenate S256x1024 0
    [⟨S32x1024, laneSum q (chunk b 0 (by decide)) 127 (by decide)⟩, ⟨S32x1024, laneSum q (chunk b 1 (by decide)) 127 (by decide)⟩,
      ⟨S32x1024, laneSum q (chunk b 2 (by decide)) 127 (by decide)⟩, ⟨S32x1024, laneSum q (chunk b 3 (by decide)) 127 (by decide)⟩,
      ⟨S32x1024, laneSum q (chunk b 4 (by decide)) 127 (by decide)⟩, ⟨S32x1024, laneSum q (chunk b 5 (by decide)) 127 (by decide)⟩,
      ⟨S32x1024, laneSum q (chunk b 6 (by decide)) 127 (by decide)⟩, ⟨S32x1024, laneSum q (chunk b 7 (by decide)) 127 (by decide)⟩]
    catChunks

theorem redKey : S256x128.Reduces [1] S256 := by decide
theorem castKey : S256.ShapeCasts S256x1 := by decide
theorem redQuery : S128x1024.Reduces [0] S1024 := by decide
theorem castRow : S1024.ShapeCasts S1x1024 := by decide
theorem bcKeySum : S256x1.Broadcasts S256x1024 := by decide
theorem bcQuerySum : S1x1024.Broadcasts S256x1024 := by decide

/-- The sum of each key's coordinates, as a column. -/
def keySum (b : FVec F S256x128 .f32) : FVec F S256x1 .f32 :=
  shapeCast S256x1 (multiReduction .add [1] S256 b 0x00000000#32 redKey (.inl rfl) rfl) castKey

/-- The sum of each query's coordinates, as a row. -/
def querySum (q : FVec F S128x1024 .f32) : FVec F S1x1024 .f32 :=
  shapeCast S1x1024 (multiReduction .add [0] S1024 q 0x00000000#32 redQuery (.inl rfl) rfl) castRow

/-- The block's distances: a key's sum and a query's sum, less twice the sum of the smaller coordinates. -/
def dist (b : FVec F S256x128 .f32) (q : FVec F S128x1024 .f32) : FVec F S256x1024 .f32 :=
  subf (addf (broadcastTo S256x1024 (keySum b) bcKeySum) (broadcastTo S256x1024 (querySum q) bcQuerySum)) (addf (mins b q) (mins b q))

/-! ## The ten smallest values of every column -/

theorem redCand : S272x1024.Reduces [0] S1024 := by decide
theorem bcCand : S1x1024.Broadcasts S272x1024 := by decide
theorem iotaCand : S272x1024.Iotas .tc 32 [0] := by decide

/-- Each element's row number. -/
def rowNo : IVec S272x1024 32 := iota .tc S272x1024 32 [0] iotaCand

/-- Each column's smallest value. -/
def rowMin (x : FVec F S272x1024 .f32) : FVec F S1x1024 .f32 :=
  shapeCast S1x1024 (multiReduction .minimumf [0] S1024 x 0x7F800000#32 redCand (.inl rfl) rfl) castRow

/-- Each column's first row holding its smallest value. -/
def firstMin (x : FVec F S272x1024 .f32) : IVec S1x1024 32 :=
  shapeCast S1x1024 (multiReductionI .minsi [0] S1024
    (select (cmpf .ole x (broadcastTo S272x1024 (rowMin x) bcCand)) rowNo (broadcast S272x1024 1073741824#32))
    2147483647#32 redCand rfl) castRow

/-- The candidates with each column's first smallest value replaced by `big`. -/
def knock (big : F .f32) (x : FVec F S272x1024 .f32) : FVec F S272x1024 .f32 :=
  select (cmpi .eq rowNo (broadcastTo S272x1024 (firstMin x) bcCand)) (broadcast S272x1024 big) x

/-- `n` such replacements, one after another. -/
def knocked (big : F .f32) (x : FVec F S272x1024 .f32) : ℕ → FVec F S272x1024 .f32
  | 0 => x
  | n + 1 => knock big (knocked big x n)

theorem catCand : Shape.Concatenates [S256x1024, S16x1024] S272x1024 0 := by decide
theorem catRows : Shape.Concatenates [S1x1024, S1x1024, S1x1024, S1x1024, S1x1024, S1x1024, S1x1024, S1x1024, S1x1024, S1x1024, S6x1024]
    S16x1024 0 := by decide

/-- The ten smallest values of every column in order, then six rows of `big`. -/
def topRows (big : F .f32) (x : FVec F S272x1024 .f32) : FVec F S16x1024 .f32 :=
  concatenate S16x1024 0
    [⟨S1x1024, rowMin (knocked big x 0)⟩, ⟨S1x1024, rowMin (knocked big x 1)⟩, ⟨S1x1024, rowMin (knocked big x 2)⟩,
      ⟨S1x1024, rowMin (knocked big x 3)⟩, ⟨S1x1024, rowMin (knocked big x 4)⟩, ⟨S1x1024, rowMin (knocked big x 5)⟩,
      ⟨S1x1024, rowMin (knocked big x 6)⟩, ⟨S1x1024, rowMin (knocked big x 7)⟩, ⟨S1x1024, rowMin (knocked big x 8)⟩,
      ⟨S1x1024, rowMin (knocked big x 9)⟩, ⟨S6x1024, broadcast S6x1024 big⟩]
    catRows

theorem castQuery : S128x1024.ShapeCasts S128x1024 := by decide
theorem castBuf : S16x1024.ShapeCasts S16x1024 := by decide

/-- A grid point's update of the running ten smallest: the block's distances and the rows held so far, cut to ten. -/
def merge (big : F .f32) (b : FVec F S256x128 .f32) (q : FVec F S128x1024 .f32) (buf : FVec F S16x1024 .f32) : FVec F S16x1024 .f32 :=
  shapeCast S16x1024 (topRows big (concatenate S272x1024 0 [⟨S256x1024, dist b (shapeCast S128x1024 q castQuery)⟩, ⟨S16x1024, buf⟩] catCand)) castBuf

/-- The running rows before the first block: `big` everywhere. -/
def fresh (big : F .f32) : FVec F S16x1024 .f32 := shapeCast S16x1024 (broadcast S16x1024 big) castBuf

/-! ## The loss at the end -/

theorem bcTen : S1x1024.Broadcasts S10x1024 := by decide
theorem redTen : S10x1024.Reduces [0] S1024 := by decide
theorem redLast : S1x1024.Reduces [1] S1 := by decide
theorem castLast : S1.ShapeCasts S1x1 := by decide

/-- The distance of the paired queries plus one, as a row. -/
def margin (q p : FVec F S128x1024 .f32) : FVec F S1x1024 .f32 :=
  addf (shapeCast S1x1024 (multiReduction .add [0] S1024
      (absf (subf (shapeCast S128x1024 q castQuery) (shapeCast S128x1024 p castQuery))) 0x00000000#32 redQuery (.inl rfl) rfl) castRow)
    (broadcast S1x1024 (Scalar.ofBits .f32 0x3F800000#32))

/-- The loss of one side: the margin less each of the ten smallest distances, cut at zero, added up. -/
def loss (q p : FVec F S128x1024 .f32) (ten : FVec F S10x1024 .f32) : FVec F S1x1 .f32 :=
  shapeCast S1x1 (multiReduction .add [1] S1
    (shapeCast S1x1024 (multiReduction .add [0] S1024
      (maximumf (subf (broadcastTo S10x1024 (margin q p) bcTen) ten) (broadcast S10x1024 (Scalar.ofBits .f32 0x00000000#32)))
      0x00000000#32 redTen (.inl rfl) rfl) castRow)
    0x00000000#32 redLast (.inl rfl) rfl) castLast

end Cert.Proof.Side

end
-- ==== Proof.Body.lean ====
/-
  The printed body of the two distance kernels as a short program over the compact values of `Spec`.
-/
module

public import proofs.«01_k».proof.KernelIdeal
public import proofs.«01_k».proof.Proof.Gen.KernelIdeal
public import proofs.«01_k».proof.Proof.Spec

@[expose] public section

noncomputable section

namespace Cert.Proof.Side

open Idealize.ShloMosaic Idealize.SL.Sem Cert.KernelIdeal Cert.KernelIdeal.Gen

variable {F : FTy → Type} [FloatOps F] [Named F]

/-- The constant standing for "no distance yet". -/
abbrev bigC : F .f32 := Named.named κ "big" 0x7F61B1E6#32

abbrev Prg (F : FTy → Type) := Prog (TpuEff nD τ sig (Elt F) Λ₀ .tc) PUnit

section
variable (arg1 : Memref sig .tc .vmem S256x128 .f32) (arg2 arg3 : Memref sig .tc .vmem S128x1024 .f32)
  (arg4 : Memref sig .tc .vmem S1x1 .f32) (arg5 : Memref sig .tc .vmem S16x1024 .f32)

/-- The running rows set to `big`, at the first grid point. -/
def initB (k : Prg F) : Prg F := do
  let _ : Vec F S16x1024 .f32 ← Prog.lift (.load arg5 (Rect.unit (s := S16x1024) ![0, 0] S16x1024.size inb_S16x1024_S16x1024_0_0).toLoadRect (View.loadsAt_vmem h_S16x1024))
  Prog.lift (.store arg5 (Rect.unit (s := S16x1024) ![0, 0] S16x1024.size inb_S16x1024_S16x1024_0_0) (fresh bigC) Finset.univ (View.stores_vmem_bits_univ h_S16x1024 rfl) (.inl rfl))
  k

/-- The running rows updated with the block's distances, at every grid point. -/
def stepB (k : Prg F) : Prg F := do
  let b : Vec F S256x128 .f32 ← Prog.lift (.load arg1 (Rect.unit (s := S256x128) ![0, 0] S256x128.size inb_S256x128_S256x128_0_0).toLoadRect (View.loadsAt_vmem h_S256x128))
  let q : Vec F S128x1024 .f32 ← Prog.lift (.load arg2 (Rect.unit (s := S128x1024) ![0, 0] S128x1024.size inb_S128x1024_S128x1024_0_0).toLoadRect (View.loadsAt_vmem h_S128x1024))
  let buf : Vec F S16x1024 .f32 ← Prog.lift (.load arg5 (Rect.unit (s := S16x1024) ![0, 0] S16x1024.size inb_S16x1024_S16x1024_0_0).toLoadRect (View.loadsAt_vmem h_S16x1024))
  let _ : Vec F S16x1024 .f32 ← Prog.lift (.load arg5 (Rect.unit (s := S16x1024) ![0, 0] S16x1024.size inb_S16x1024_S16x1024_0_0).toLoadRect (View.loadsAt_vmem h_S16x1024))
  Prog.lift (.store arg5 (Rect.unit (s := S16x1024) ![0, 0] S16x1024.size inb_S16x1024_S16x1024_0_0) (merge bigC b q buf) Finset.univ (View.stores_vmem_bits_univ h_S16x1024 rfl) (.inl rfl))
  k

/-- The loss written out, at the last grid point. -/
def endB : Prg F := do
  let q : Vec F S128x1024 .f32 ← Prog.lift (.load arg2 (Rect.unit (s := S128x1024) ![0, 0] S128x1024.size inb_S128x1024_S128x1024_0_0).toLoadRect (View.loadsAt_vmem h_S128x1024))
  let p : Vec F S128x1024 .f32 ← Prog.lift (.load arg3 (Rect.unit (s := S128x1024) ![0, 0] S128x1024.size inb_S128x1024_S128x1024_0_0).toLoadRect (View.loadsAt_vmem h_S128x1024))
  let ten : Vec F S10x1024 .f32 ← Prog.lift (.load arg5 (Rect.unit (s := S16x1024) ![0, 0] S10x1024.size inb_S16x1024_S10x1024_0_0).toLoadRect (View.loadsAt_vmem h_S10x1024))
  let _ : Vec F S1x1 .f32 ← Prog.lift (.load arg4 (Rect.unit (s := S1x1) ![0, 0] S1x1.size inb_S1x1_S1x1_0_0).toLoadRect (View.loadsAt_vmem h_S1x1))
  Prog.lift (.store arg4 (Rect.unit (s := S1x1) ![0, 0] S1x1.size inb_S1x1_S1x1_0_0) (loss q p ten) Finset.univ (View.stores_vmem_bits_univ h_S1x1 rfl) (.inl rfl))
  pure ⟨⟩

end

/-- The first-point condition as the kernel computes it. -/
def firstC (i : grid1.Coords) : BitVec 1 :=
  Scalar.cmpi .ne (Scalar.extui (Scalar.cmpi .eq (BitVec.ofNat 32 (i 0).val) 0#32) : BitVec 32) 0#32

section
variable (i : grid1.Coords) (arg1 : Memref sig .tc .vmem S256x128 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1x1 .f32) (harg4 : arg4.IsWhole)
    (arg5 : Memref sig .tc .vmem S16x1024 .f32) (harg5 : arg5.IsWhole)

set_option maxRecDepth 65536 in
/-- At a point that is not the first: the step, then the loss at the last point. -/
theorem side1_later (h1 : ¬ firstC i = 1#1) :
    cc1__side_kernel (F := F) i arg1 harg1 arg2 harg2 arg3 harg3 arg4 harg4 arg5 harg5
      = stepB arg1 arg2 arg5 (if k1_cond2 i = 1#1 then endB arg2 arg3 arg4 arg5 else pure ⟨⟩) := by
  unfold cc1__side_kernel k1_part106 k1_part107 k1_part1
  by_cases h2 : k1_cond2 i = 1#1
  · rw [dif_pos h2, if_pos h2]; erw [dif_neg h1]; rfl
  · rw [dif_neg h2, if_neg h2]; erw [dif_neg h1]; rfl

set_option maxRecDepth 65536 in
/-- At the first point: the running rows set, then the step. -/
theorem side1_first (h1 : firstC i = 1#1) (h2 : ¬ k1_cond2 i = 1#1) :
    cc1__side_kernel (F := F) i arg1 harg1 arg2 harg2 arg3 harg3 arg4 harg4 arg5 harg5
      = initB arg5 (stepB arg1 arg2 arg5 (pure ⟨⟩)) := by
  unfold cc1__side_kernel k1_part106 k1_part107 k1_part1
  rw [dif_neg h2]; erw [dif_pos h1]; rfl

set_option maxRecDepth 65536 in
/-- The second distance kernel is the first's text. -/
theorem side2_eq : cc2__side_kernel (F := F) i arg1 harg1 arg2 harg2 arg3 harg3 arg4 harg4 arg5 harg5
    = cc1__side_kernel (F := F) i arg1 harg1 arg2 harg2 arg3 harg3 arg4 harg4 arg5 harg5 := rfl

end

end Cert.Proof.Side

end
-- ==== Proof.Steps.lean ====
/-
  The three stretches of the distance kernels' body, run: what each leaves in the buffers it is handed, as a
  function of what they held.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.Pipeline.RegionsLoop
public import Idealize.ShloMosaic.Lib.VecWindow
public import Idealize.ShloMosaic.Lib.Tactic

@[expose] public section

noncomputable section

namespace Cert.Proof.Side

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The handshakes' rounds. -/
abbrev UH : Type := URounds (GSem nD τ sig) ℕ
/-- The pipelines' rounds. -/
abbrev UP : Type := URounds (GSem nD τ sig) Unit
/-- All the ghost state of the run: the handshakes', the pipelines', the local copies' counters. -/
abbrev UU : Type := UH × UP × Counters

local notation "𝕄" => MT nD τ sig (HIx 1) (Elt F) ℕ UU ℕ

abbrev 𝒱₀ : Variants := Variants.none

/-- The rows of a running buffer that the loss reads. -/
def firstTen (x : Vec F S16x1024 .f32) : Vec F S10x1024 .f32 :=
  fun j => x ((Rect.unit (s := S16x1024) ![0, 0] S10x1024.size inb_S16x1024_S10x1024_0_0).toLoadRect.idx j)

section
variable (c : Dev nD) (arg1 : Memref sig .tc .vmem S256x128 .f32) (arg2 arg3 : Memref sig .tc .vmem S128x1024 .f32)
  (arg4 : Memref sig .tc .vmem S1x1 .f32) (arg5 : Memref sig .tc .vmem S16x1024 .f32)
  (b : Vec F S256x128 .f32) (q p : Vec F S128x1024 .f32) (o : Vec F S1x1 .f32) (buf : Vec F S16x1024 .f32)

/-- The first stretch leaves the running rows at the constant. -/
theorem init_wp (k : Prg F) (E : Set ℕ) (Q : PUnit → sProp 𝕄) :
    iprop(owns (c : Thread nD τ) arg5 fullShare buf
      ∗ (owns (c : Thread nD τ) arg5 fullShare (fresh (bigC (F := F))) -∗ wp frame (wpE (defs₀ (F := F)) 𝒱₀ c none) E k Q))
    ⊢ wp frame (wpE (defs₀ (F := F)) 𝒱₀ c none) E (initB arg5 k) Q := by
  unfold initB owns
  iintro ⟨⟨%f5, %e5, H5⟩, Hk⟩
  sl_exec
  iapply Hk
  iexists _; isplitr; swap; (· iexact H5); ipureintro
  exact View.read_writes_full _ _ _ _ _

/-- The second stretch merges the block's distances into the running rows. -/
theorem step_wp (k : Prg F) (E : Set ℕ) (Q : PUnit → sProp 𝕄) :
    iprop(owns (c : Thread nD τ) arg1 fullShare b ∗ owns (c : Thread nD τ) arg2 fullShare q ∗ owns (c : Thread nD τ) arg5 fullShare buf
      ∗ (iprop(owns (c : Thread nD τ) arg1 fullShare b ∗ owns (c : Thread nD τ) arg2 fullShare q
            ∗ owns (c : Thread nD τ) arg5 fullShare (merge bigC b q buf))
          -∗ wp frame (wpE (defs₀ (F := F)) 𝒱₀ c none) E k Q))
    ⊢ wp frame (wpE (defs₀ (F := F)) 𝒱₀ c none) E (stepB arg1 arg2 arg5 k) Q := by
  unfold stepB owns
  iintro ⟨⟨%f1, %e1, H1⟩, ⟨%f2, %e2, H2⟩, ⟨%f5, %e5, H5⟩, Hk⟩
  sl_exec
  iapply Hk
  isplitl [H1]; · iexists _; isplitr; swap; (· iexact H1); ipureintro; exact e1
  isplitl [H2]; · iexists _; isplitr; swap; (· iexact H2); ipureintro; exact e2
  iexists _; isplitr; swap; (· iexact H5); ipureintro
  rw [View.read_writes_full]
  exact congr (congr (congrArg (merge bigC) ((View.readAt_full _ _ _).trans e1)) ((View.readAt_full _ _ _).trans e2)) ((View.readAt_full _ _ _).trans e5)

/-- The last stretch writes the loss. -/
theorem end_wp (E : Set ℕ) (Q : PUnit → sProp 𝕄) :
    iprop(owns (c : Thread nD τ) arg2 fullShare q ∗ owns (c : Thread nD τ) arg3 fullShare p ∗ owns (c : Thread nD τ) arg4 fullShare o
        ∗ owns (c : Thread nD τ) arg5 fullShare buf
      ∗ (iprop(owns (c : Thread nD τ) arg2 fullShare q ∗ owns (c : Thread nD τ) arg3 fullShare p
            ∗ owns (c : Thread nD τ) arg4 fullShare (loss q p (firstTen buf)) ∗ owns (c : Thread nD τ) arg5 fullShare buf)
          -∗ Q ⟨⟩))
    ⊢ wp frame (wpE (defs₀ (F := F)) 𝒱₀ c none) E (endB arg2 arg3 arg4 arg5) Q := by
  unfold endB owns
  iintro ⟨⟨%f2, %e2, H2⟩, ⟨%f3, %e3, H3⟩, ⟨%f4, %e4, H4⟩, ⟨%f5, %e5, H5⟩, Hk⟩
  sl_exec
  sl_step
  iapply Hk
  isplitl [H2]; · iexists _; isplitr; swap; (· iexact H2); ipureintro; exact e2
  isplitl [H3]; · iexists _; isplitr; swap; (· iexact H3); ipureintro; exact e3
  isplitl [H4]
  · iexists _; isplitr; swap; (· iexact H4); ipureintro
    rw [View.read_writes_full]
    refine congr (congr (congrArg loss ((View.readAt_full _ _ _).trans e2)) ((View.readAt_full _ _ _).trans e3)) ?_
    funext j; exact congrFun e5 _
  iexists _; isplitr; swap; (· iexact H5); ipureintro; exact e5
end

end Cert.Proof.Side

end
-- ==== Proof.Tile.lean ====
/-
  One gather of a tile: 32 row numbers fetched from a list, the rows of a table they name gathered by the indirect
  stream, and the rows written out to a block of 32 rows of the result.
-/
module

public import proofs.«01_k».proof.Proof.Steps
public import proofs.«01_k».proof.Proof.Gen.KernelIdeal.Skeleton

@[expose] public section

noncomputable section

namespace Cert.Proof.Side

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The tile at grid coordinates `L` of device `d`. -/
abbrev cV (L : grid0.Coords) : Fin τ.nSC := (L 0).castLE hcore0
abbrev jV (L : grid0.Coords) : Fin τ.nSub := (L 1).castLE hsub0

abbrev PrgV (F : FTy → Type) (L : grid0.Coords) := Prog (TpuEff nD τ sig (Elt F) Λ₀ (.scVector (cV L) (jV L))) PUnit

/-- The tile's 32 entries of a list, all of a table, and the tile's 32 rows of a result. -/
abbrev lstRow (L : grid0.Coords) (lst : Memref sig .scVector .hbm S1024 .i32) : Memref sig .scVector .hbm S32 .i32 :=
  lst.slice (Rect.unit (s := S1024) (k0_off1 L) S32.size (k0_off1_inb L)) (fun _ => rfl)
abbrev tblAll (tbl : Memref sig .scVector .hbm S16384x128 .f32) : Memref sig .scVector .hbm S16384x128 .f32 :=
  tbl.slice (Rect.unit (s := S16384x128) ![0, 0] S16384x128.size inb_S16384x128_S16384x128_0_0) (fun _ => rfl)
abbrev outRow (L : grid0.Coords) (out : Memref sig .scVector .hbm S1024x128 .f32) : Memref sig .scVector .hbm S32x128 .f32 :=
  out.slice (Rect.unit (s := S1024x128) (k0_off2 L) S32x128.size (k0_off2_inb L)) (fun _ => rfl)

/-- The tile's list buffer and its row buffer. -/
abbrev sV : Memref sig .scVector .vmem S32 .i32 := Memref.whole cc0_scratch0
abbrev rV : Memref sig .scVector .vmem S32x128 .f32 := Memref.whole cc0_scratch1

/-- The stream's rows credit the whole row buffer's amount. -/
theorem credit_rows (h : S16384x128.Gathers 0 S32x128) :
    ∑ j, (rV.slice (S32x128.rowRect h.axis' j) (S32x128.stride_rowRect h.axis' j)).view.dmaCredit = rV.view.dmaCredit := by decide +revert

/-- A buffer whose last write covers it whole reads as that write. -/
theorem read_last {κ : Kind} {sp : Space} {s : Shape} {e : EltTy} (v : View sig κ sp s e) (f : v.ty.Contents (Elt F)) (w : s.Idx → Elt F e)
    (l : List (View.Piece (Elt F) s e)) : v.read (Elt F) (v.writes (Elt F) f (⟨Rect.whole s, w⟩ :: l)) = w :=
  funext fun x => View.read_writes_cons_hit v f (Rect.whole s) w l x x (Rect.emb_whole_apply s x)

/-- A buffer at given contents, under what it reads as. -/
theorem owns_fold (c : Thread nD τ) {sp : Space} {sh : Shape} {e : EltTy} (M : Memref sig c.2.kind sp sh e) (q : PosShare TreeShare)
    (f : Buf (Elt F) (M.view.loc c)) (X : sh.Idx → Elt F e) (h : M.view.read (Elt F) f = X) :
    (M.view.loc c ↦[M.view.set]{q} f : sProp 𝕄) ⊢ iprop(∃ f, ⌜M.view.read (Elt F) f = X⌝ ∗ (M.view.loc c ↦[M.view.set]{q} f)) := by
  iintro H; iexists f; isplitr; · ipureintro; exact h
  iexact H

section
variable (L : grid0.Coords) (tbl : Memref sig .scVector .hbm S16384x128 .f32) (lst : Memref sig .scVector .hbm S1024 .i32)
  (out : Memref sig .scVector .hbm S1024x128 .f32) (sA sC sB : DmaSem sig)

/-- One gather, then `k`. -/
def half (k : PrgV F L) : PrgV F L := do
  Prog.lift (.enqueueDma (lstRow L lst) (.here sV) (.dma sA) (View.wordExact_bits rfl) (Memref.isWhole_whole cc0_scratch0).wordExact ⟨Or.inl rfl, trivial⟩)
  Prog.lift (.waitDma2 sA (lstRow L lst) sV (View.wordExact_bits rfl) (Memref.isWhole_whole cc0_scratch0).wordExact)
  SparseCore.enqueueIndirectGather rfl (tblAll tbl) rV gathers_S16384x128_S32x128 sV rfl sC (View.wordExact_bits rfl) rfl (Or.inl rfl)
  SparseCore.waitIndirectGather sC (tblAll tbl) rV (View.wordExact_bits rfl) (Memref.isWhole_whole cc0_scratch1).wordExact
  Prog.lift (.enqueueDma rV (.here (outRow L out)) (.dma sB) (Memref.isWhole_whole cc0_scratch1).wordExact (View.wordExact_bits rfl) ⟨Or.inl rfl, trivial⟩)
  Prog.lift (.waitDma2 sB rV (outRow L out) (Memref.isWhole_whole cc0_scratch1).wordExact (View.wordExact_bits rfl))
  k

/-- The rows a list of 32 names. -/
abbrev gathered (X : Vec F S16384x128 .f32) (I : Vec F S32 .i32) (hin : ∀ x, (I x).toNat < 16384) : Vec F S32x128 .f32 :=
  SparseCore.gatherPayload gathers_S16384x128_S32x128 X (SparseCore.rows (F := F) I rfl hin)

variable (d : Dev nD)

/-- One gather, run: the result's rows end as the rows of the table that the list names; everything else is handed back. -/
theorem half_wp (k : PrgV F L) (Q : PUnit → sProp 𝕄) (qt ql : PosShare TreeShare) (X : Vec F S16384x128 .f32) (I : Vec F S32 .i32)
    (hin : ∀ x, (I x).toNat < 16384) (O : CellTallies nD τ sig (HIx 1)) (W : Waits sig (HIx 1)) :
    iprop(Transfers.MayWaits (V d (cV L) (jV L)) (default : HIx 1) O
        ∗ owns (V d (cV L) (jV L)) (tblAll tbl) qt X ∗ owns (V d (cV L) (jV L)) (lstRow L lst) ql I
        ∗ (∃ o, owns (V d (cV L) (jV L)) (outRow L out) fullShare o)
        ∗ (∃ f, owns (V d (cV L) (jV L)) sV fullShare f) ∗ (∃ f, owns (V d (cV L) (jV L)) rV fullShare f)
        ∗ semVal (V d (cV L) (jV L), .dma sA) 0 ∗ semVal (V d (cV L) (jV L), .dma sC) 0 ∗ semVal (V d (cV L) (jV L), .dma sB) 0
        ∗ owes (V d (cV L) (jV L)) O W
        ∗ (iprop(Transfers.MayWaits (V d (cV L) (jV L)) (default : HIx 1) O
              ∗ owns (V d (cV L) (jV L)) (tblAll tbl) qt X ∗ owns (V d (cV L) (jV L)) (lstRow L lst) ql I
              ∗ owns (V d (cV L) (jV L)) (outRow L out) fullShare (gathered X I hin)
              ∗ (∃ f, owns (V d (cV L) (jV L)) sV fullShare f) ∗ (∃ f, owns (V d (cV L) (jV L)) rV fullShare f)
              ∗ semVal (V d (cV L) (jV L), .dma sA) 0 ∗ semVal (V d (cV L) (jV L), .dma sC) 0 ∗ semVal (V d (cV L) (jV L), .dma sB) 0
              ∗ ∃ W', ⌜∀ p ∈ W', p ∈ W ∨ p.2 = none⌝ ∗ owes (V d (cV L) (jV L)) O W')
            -∗ wp frame (wpE (defs₀ (F := F)) 𝒱₀ (V d (cV L) (jV L)) none) Set.univ k Q))
      ⊢ wp frame (wpE (defs₀ (F := F)) 𝒱₀ (V d (cV L) (jV L)) none) Set.univ (half L tbl lst out sA sC sB k) Q := by
  unfold half owns
  iintro ⟨#Hmw, ⟨%ft, %et, Ht⟩, ⟨%fl, %el, Hl⟩, ⟨%o, %fo, -, Ho⟩, ⟨%zs, %fs, -, Hs⟩, ⟨%zr, %fr, -, Hr⟩, HA, HC, HB, HO, Hk⟩
  sl_exec
  ihave Hs' := (owns_fold (F := F) (V d (cV L) (jV L)) sV fullShare _ I ((read_last (F := F) sV.view _ (half_wp.sl.dma0 L lst d fl) []).trans el)) $$ Hs
  icases Hs' with ⟨%gs, %es, Hs⟩
  have hin' : ∀ x, (sV.view.read (Elt F) gs x).toNat < S16384x128.size gathers_S16384x128_S32x128.axis := by
    intro x; rw [es]; exact hin x
  iapply (SparseCore.wp_indirectGatherLocal countersEmb 𝒱₀ (V d (cV L) (jV L)) none (hg := gathers_S16384x128_S32x128) (src := tblAll tbl) (dst := rV) (offs := sV) (sem := sC) (q := qt) (qo := fullShare) (fs := ft) (fd := fr) (fo := gs) (default : HIx 1)
      rV.view.dmaCredit (credit_rows _) (by decide) hin') $$ [Ht Hr Hs HC]
  · isplitl [Ht]; · iexact Ht
    isplitl [Hr]; · iexact Hr
    isplitl [Hs]; · iexact Hs
    iexact HC
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma sC)) $$ Hmw
  iintro ⟨⟨Hr, Ht, Hs⟩, HC, HO⟩
  sl_exec
  have eg : half_wp.sl.dma0_1 L tbl d ft fr gs hin' = gathered X I hin := by
    subst et es
    exact View.read_write_univ (v := rV.view) fr _
  iapply Hk
  isplitr; · iexact Hmw
  isplitl [Ht]; · iexists ft; isplitr; · ipureintro; exact et
                  iexact Ht
  isplitl [Hl]; · iexists fl; isplitr; · ipureintro; exact el
                  iexact Hl
  isplitl [Ho]
  · iapply (owns_fold (F := F) (V d (cV L) (jV L)) (outRow L out) fullShare _ (gathered X I hin) ((read_last (F := F) (outRow L out).view fo _ []).trans eg)) $$ Ho
  isplitl [Hs]; · iexists _, gs; isplitr; · ipureintro; rfl
                  iexact Hs
  isplitl [Hr]; · iexists _; iapply (owns_fold (F := F) (V d (cV L) (jV L)) rV fullShare _ _ rfl) $$ Hr
  isplitl [HA]; · iexact HA
  isplitl [HC]; · iexact HC
  isplitl [HB]; · iexact HB
  iexists _; isplitr; swap; · iexact HO
  ipureintro; intro x hx
  rcases Finset.mem_insert.mp hx with hx | hx; · exact .inr (hx ▸ rfl)
  rcases Finset.mem_insert.mp hx with hx | hx; · exact .inr (hx ▸ rfl)
  rcases Finset.mem_insert.mp hx with hx | hx; · exact .inr (hx ▸ rfl)
  exact .inl hx
end

/-! ## The tile's whole task -/

abbrev t1V : Memref sig .scVector .hbm S16384x128 .f32 := Memref.whole main_arg0_scv
abbrev t2V : Memref sig .scVector .hbm S16384x128 .f32 := Memref.whole main_arg1_scv
abbrev i1V : Memref sig .scVector .hbm S1024 .i32 := Memref.whole main_arg2_scv
abbrev i2V : Memref sig .scVector .hbm S1024 .i32 := Memref.whole main_arg3_scv
abbrev o1V : Memref sig .scVector .hbm S1024x128 .f32 := Memref.whole main_v0_0_scv
abbrev o2V : Memref sig .scVector .hbm S1024x128 .f32 := Memref.whole main_v0_1_scv

/-- The printed task is the two gathers, one after the other. -/
theorem tile_eq (L : grid0.Coords) :
    cc0_gather_kernel (F := F) L t1V (Memref.isWhole_whole _) t2V (Memref.isWhole_whole _) i1V (Memref.isWhole_whole _) i2V (Memref.isWhole_whole _)
        o1V (Memref.isWhole_whole _) o2V (Memref.isWhole_whole _) (Memref.whole cc0_scratch0) (Memref.isWhole_whole _) (Memref.whole cc0_scratch1) (Memref.isWhole_whole _)
        cc0_scratch2 cc0_scoped0 cc0_scoped1 cc0_scoped2 cc0_scoped3
      = half L t1V i1V o1V cc0_scoped0.sem cc0_scratch2.sem cc0_scoped1.sem
          (half L t2V i2V o2V cc0_scoped2.sem cc0_scratch2.sem cc0_scoped3.sem (pure ⟨⟩)) := rfl

end Cert.Proof.Side

end
-- ==== Proof.Gather.lean ====
/-
  The gather call as the launch sees it: what each of the 32 tasks is handed and hands back, and that the task's
  program takes it from the one to the other. Task `w` is handed a 32nd share of the two tables and the two lists, and
  rows 32 w to 32 w + 31 of the two results; it hands the rows back holding the table rows that its entries name.
-/
module

public import proofs.«01_k».proof.Proof.Tile
public import Idealize.ShloMosaic.Lib.SparseCore.Quiescent
public import Idealize.ShloMosaic.Lib.SparseCore.Stream

@[expose] public section

noncomputable section

namespace Cert.Proof.Side

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The gathered rows -/

/-- The element in row `r` and column `c` of a table. -/
def tblIx (r : Fin 16384) (c : Fin 128) : S16384x128.Idx := fun a => match a with | 0 => r | 1 => c
/-- Entry `i` of a list. -/
def lstIx (i : Fin 1024) : S1024.Idx := fun a => match a with | 0 => i

/-- The rows of a table named by a list of 1024 row numbers. -/
def gatherRows (X : Vec F S16384x128 .f32) (J : Vec F S1024 .i32) : Vec F S1024x128 .f32 :=
  fun x => X (tblIx ⟨(J (lstIx (x 0))).toNat % 16384, Nat.mod_lt _ (by decide)⟩ (x 1))

/-- The number of the task at grid coordinates `L`. -/
def wid (L : grid0.Coords) : Fin 32 := ⟨2 * (L 1).val + (L 0).val, by have h0 : (L 0).val < 2 := (L 0).isLt; have h1 : (L 1).val < 16 := (L 1).isLt; omega⟩

/-- The task's place in a list, and in a result. -/
abbrev lstRect (L : grid0.Coords) : Rect S1024 := Rect.unit (s := S1024) (k0_off1 L) S32.size (k0_off1_inb L)
abbrev outRect (L : grid0.Coords) : Rect S1024x128 := Rect.unit (s := S1024x128) (k0_off2 L) S32x128.size (k0_off2_inb L)

/-- The rows of a result that task `w` writes. -/
def rowsOf (w : Fin 32) : Finset S1024x128.Idx := Finset.univ.filter fun x => (x 0).val / 32 = w.val

/-- The row of a result at which a task's part starts. -/
theorem off2_zero (L : grid0.Coords) : k0_off2 L 0 = 32 * (wid L).val := by
  rw [k0_off2_eq]; show 64 * (L 1).val + 32 * (L 0).val = 32 * (2 * (L 1).val + (L 0).val); omega
/-- A task's part starts at column zero. -/
theorem off2_one (L : grid0.Coords) : k0_off2 L 1 = 0 := by rw [k0_off2_eq]; rfl
/-- The entry of a list at which a task's part starts. -/
theorem off1_zero (L : grid0.Coords) : k0_off1 L 0 = 32 * (wid L).val := by
  rw [k0_off1_eq]; show 64 * (L 1).val + 32 * (L 0).val = 32 * (2 * (L 1).val + (L 0).val); omega

/-- A task's rectangle of a result is its 32 rows. -/
theorem outRect_set (L : grid0.Coords) : (outRect L).set = rowsOf (wid L) := by
  ext x
  rw [Rect.mem_set_unit]
  simp only [rowsOf, Finset.mem_filter, Finset.mem_univ, true_and]
  have e0 := off2_zero L
  have e1 := off2_one L
  have hx : (x 1).val < 128 := (x 1).isLt
  constructor
  · intro h
    have h0 : k0_off2 L 0 ≤ (x 0).val ∧ (x 0).val < k0_off2 L 0 + 32 := h 0
    rw [e0] at h0
    omega
  · intro h a
    match a with
    | 0 =>
      show k0_off2 L 0 ≤ (x 0).val ∧ (x 0).val < k0_off2 L 0 + 32
      rw [e0]; omega
    | 1 =>
      show k0_off2 L 1 ≤ (x 1).val ∧ (x 1).val < k0_off2 L 1 + 128
      rw [e1]; omega

/-- A list of 32 entries, read at position `k`. -/
theorem list_at (k : Fin S32.numel) : ((S32.rowMajor.symm k) 0).val = k.val := by
  have h := Shape.rowMajor_val_one (d := ![32]) (S32.rowMajor.symm k)
  have e : (S32.rowMajor (S32.rowMajor.symm k)) = k := Equiv.apply_symm_apply _ _
  exact (h.symm.trans (congrArg Fin.val e))

/-- What one gather of a task leaves is its rows of the whole gather. -/
theorem gathered_eq (L : grid0.Coords) (X : Vec F S16384x128 .f32) (J : Vec F S1024 .i32) (hJ : ∀ i, (J i).toNat < 16384)
    (hin : ∀ x, (J ((lstRect L).emb x)).toNat < 16384) :
    gathered X (fun x => J ((lstRect L).emb x)) hin = fun x => gatherRows X J ((outRect L).emb x) := by
  funext x
  show X _ = X _
  congr 1
  funext a
  match a with
  | 0 =>
    refine (Shape.Gathers.idx_axis gathers_S16384x128_S32x128 _ x).trans ?_
    apply Fin.ext
    show (J ((lstRect L).emb _)).toNat = (J (lstIx ((outRect L).emb x 0))).toNat % 16384
    rw [Nat.mod_eq_of_lt (hJ _)]
    congr 2
    funext b
    match b with
    | 0 =>
      apply Fin.ext
      show k0_off1 L 0 + 1 * ((S32.rowMajor.symm _) 0).val = k0_off2 L 0 + 1 * (x 0).val
      rw [list_at, off1_zero, off2_zero]; rfl
  | 1 =>
    apply Fin.ext
    refine (Shape.Gathers.idx_of_ne gathers_S16384x128_S32x128 _ x (1 : Fin 2) (by decide)).trans ?_
    show (x 1).val = k0_off2 L 1 + 1 * (x 1).val
    rw [off2_one]; omega

/-- An array read through a rectangle, at an index. -/
theorem read_tbl (r : Ref sig .scVector) (rect : Rect r.ty.shape) (f : r.ty.Contents (Elt F)) (x : rect.shape.Idx) :
    ((View.whole r).slice rect).read (Elt F) f x = f (rect.emb x) := rfl

/-- A view's elements, at contents that agree on them, back from what the view reads as. -/
theorem owns_pts (c : Thread nD τ) {sp : Space} {sh : Shape} {e : EltTy} (M : Memref sig c.2.kind sp sh e) (q : PosShare TreeShare)
    (f : Buf (Elt F) (M.view.loc c)) (X : sh.Idx → Elt F e) (h : M.view.read (Elt F) f = X) :
    (owns c M q X : sProp 𝕄) ⊢ (M.view.loc c ↦[M.view.set]{q} f) := by
  unfold owns
  iintro ⟨%g, %hg, H⟩
  have e : (M.view.loc c ↦[M.view.set]{q} g : sProp 𝕄) = (M.view.loc c ↦[M.view.set]{q} f) := by
    refine pointsTo_congr fun i hi => ?_
    obtain ⟨x, -, rfl⟩ := Finset.mem_map.mp hi
    have := congrFun (hg.trans h.symm) x
    rw [View.read_apply, View.read_apply] at this
    exact (cast_inj _).mp this
  iapply (Entails.of_eq e) $$ H

/-! ## What the handshakes carry -/

variable (m : (ℓ : Loc nD τ sig) → Buf (Elt F) ℓ) (ρ : Dev nD → PrngReg)

abbrev at_ (d : Dev nD) (b : Ref sig .tc) : Loc nD τ sig := (SparseCore.T d).loc b

/-- Task `w`'s share of what is read by all. -/
abbrev shareOf (w : Fin 32) : PosShare TreeShare := pieceOf fullShare 32 (by decide) w

/-- What task `w` holds: its shares of the tables and the lists, and its rows of the results, at contents `f`, `g`. -/
def taskRes (d : Dev nD) (f : Buf (Elt F) (at_ d main_v0_0)) (g : Buf (Elt F) (at_ d main_v0_1)) (w : Fin 32) : sProp 𝕄 :=
  iprop((at_ d main_arg0 ↦{shareOf w} m (at_ d main_arg0)) ∗ (at_ d main_arg1 ↦{shareOf w} m (at_ d main_arg1))
    ∗ (at_ d main_arg2 ↦{shareOf w} m (at_ d main_arg2)) ∗ (at_ d main_arg3 ↦{shareOf w} m (at_ d main_arg3))
    ∗ (at_ d main_v0_0 ↦[rowsOf w]{fullShare} f) ∗ (at_ d main_v0_1 ↦[rowsOf w]{fullShare} g))

/-- The results' contents when the tasks start, and when they are done. -/
abbrev rows1 (d : Dev nD) : Buf (Elt F) (at_ d main_v0_0) := gatherRows (F := F) (m (at_ d main_arg0)) (m (at_ d main_arg2))
/-- The rows of the second table that the second list names. -/
abbrev rows2 (d : Dev nD) : Buf (Elt F) (at_ d main_v0_1) := gatherRows (F := F) (m (at_ d main_arg1)) (m (at_ d main_arg3))
/-- What a task starts with: the results as they were. -/
abbrev taskIn (d : Dev nD) (w : Fin 32) : sProp 𝕄 := taskRes m d (m (at_ d main_v0_0)) (m (at_ d main_v0_1)) w
/-- What a task ends with: its rows of the results gathered. -/
abbrev taskOut (d : Dev nD) (w : Fin 32) : sProp 𝕄 := taskRes m d (rows1 m d) (rows2 m d) w

/-- What the proof asks of the launch memory: every list entry is a row number. -/
def PreOK : Prop := ∀ d : Dev nD, (∀ j : S1024.Idx, ((m (at_ d main_arg2) : Vec F S1024 .i32) j).toNat < 16384)
  ∧ ∀ j : S1024.Idx, ((m (at_ d main_arg3) : Vec F S1024 .i32) j).toNat < 16384

section Task
variable (d : Dev nD) (L : grid0.Coords)

/-- The rectangle of a whole table is all of it. -/
theorem tbl_set : (Rect.unit (s := S16384x128) ![0, 0] S16384x128.size inb_S16384x128_S16384x128_0_0).set = Finset.univ := by
  ext x
  rw [Rect.mem_set_unit]
  simp only [Finset.mem_univ, iff_true]
  intro a
  have := (x a).isLt
  match a with
  | 0 => exact ⟨Nat.zero_le _, lt_of_lt_of_eq this (Nat.zero_add _).symm⟩
  | 1 => exact ⟨Nat.zero_le _, lt_of_lt_of_eq this (Nat.zero_add _).symm⟩

/-- A table read whole is the table. -/
theorem tbl_read (f : Vec F S16384x128 .f32) :
    (fun x : S16384x128.Idx => f ((Rect.unit (s := S16384x128) ![0, 0] S16384x128.size inb_S16384x128_S16384x128_0_0).emb x)) = f := by
  funext x
  congr 1
  funext a
  apply Fin.ext
  match a with
  | 0 => show 0 + 1 * (x 0).val = (x 0).val; omega
  | 1 => show 0 + 1 * (x 1).val = (x 1).val; omega

/-- Owning a view at what its contents read as is holding its elements at those contents. -/
theorem pts_owns (c : Thread nD τ) {sp : Space} {sh : Shape} {e : EltTy} (M : Memref sig c.2.kind sp sh e) (q : PosShare TreeShare)
    (f : Buf (Elt F) (M.view.loc c)) (X : sh.Idx → Elt F e) (h : M.view.read (Elt F) f = X) :
    (owns c M q X : sProp 𝕄) = (M.view.loc c ↦[M.view.set]{q} f) :=
  BI.Entails.antisymm (owns_pts c M q f X h) (by subst h; exact owns_intro c M q f)

abbrev me (d : Dev nD) (L : grid0.Coords) : Thread nD τ := V d (cV L) (jV L)

/-- A share of the first table, seen through its buffer. -/
theorem own_t1 (q : PosShare TreeShare) (f : Vec F S16384x128 .f32) :
    (owns (me d L) (tblAll t1V) q f : sProp 𝕄) = (at_ d main_arg0 ↦{q} f) := by
  rw [pts_owns (F := F) (me d L) (tblAll t1V) q f f (tbl_read f), show (tblAll t1V).view.set = Finset.univ from (View.set_slice_whole _ _).trans tbl_set]
/-- A share of the second table, seen through its buffer. -/
theorem own_t2 (q : PosShare TreeShare) (f : Vec F S16384x128 .f32) :
    (owns (me d L) (tblAll t2V) q f : sProp 𝕄) = (at_ d main_arg1 ↦{q} f) := by
  rw [pts_owns (F := F) (me d L) (tblAll t2V) q f f (tbl_read f), show (tblAll t2V).view.set = Finset.univ from (View.set_slice_whole _ _).trans tbl_set]
/-- A share of the first list, seen through its buffer. -/
theorem own_i1 (q : PosShare TreeShare) (f : Vec F S1024 .i32) :
    (owns (me d L) (lstRow L i1V) q (fun x => f ((lstRect L).emb x)) : sProp 𝕄) = (at_ d main_arg2 ↦[(lstRect L).set]{q} f) := by
  rw [pts_owns (F := F) (me d L) (lstRow L i1V) q f (fun x => f ((lstRect L).emb x)) rfl, show (lstRow L i1V).view.set = (lstRect L).set from View.set_slice_whole _ _]
/-- A share of the second list, seen through its buffer. -/
theorem own_i2 (q : PosShare TreeShare) (f : Vec F S1024 .i32) :
    (owns (me d L) (lstRow L i2V) q (fun x => f ((lstRect L).emb x)) : sProp 𝕄) = (at_ d main_arg3 ↦[(lstRect L).set]{q} f) := by
  rw [pts_owns (F := F) (me d L) (lstRow L i2V) q f (fun x => f ((lstRect L).emb x)) rfl, show (lstRow L i2V).view.set = (lstRect L).set from View.set_slice_whole _ _]
/-- A task's rows of the first result, seen through its buffer. -/
theorem own_o1 (f : Vec F S1024x128 .f32) :
    (owns (me d L) (outRow L o1V) fullShare (fun x => f ((outRect L).emb x)) : sProp 𝕄) = (at_ d main_v0_0 ↦[rowsOf (wid L)]{fullShare} f) := by
  rw [pts_owns (F := F) (me d L) (outRow L o1V) fullShare f (fun x => f ((outRect L).emb x)) rfl, show (outRow L o1V).view.set = rowsOf (wid L) from (View.set_slice_whole _ _).trans (outRect_set L)]
/-- A task's rows of the second result, seen through its buffer. -/
theorem own_o2 (f : Vec F S1024x128 .f32) :
    (owns (me d L) (outRow L o2V) fullShare (fun x => f ((outRect L).emb x)) : sProp 𝕄) = (at_ d main_v0_1 ↦[rowsOf (wid L)]{fullShare} f) := by
  rw [pts_owns (F := F) (me d L) (outRow L o2V) fullShare f (fun x => f ((outRect L).emb x)) rfl, show (outRow L o2V).view.set = rowsOf (wid L) from (View.set_slice_whole _ _).trans (outRect_set L)]

/-- A list's share is the task's entries and the rest. -/
theorem lst_split (b : Ref sig .tc) (I : Finset (Idx (at_ d b))) (q : PosShare TreeShare) (f : Buf (Elt F) (at_ d b)) :
    (at_ d b ↦{q} f : sProp 𝕄) = iprop((at_ d b ↦[I]{q} f) ∗ (at_ d b ↦[Finset.univ \ I]{q} f)) :=
  BI.Entails.antisymm (pointsTo_split_subset (Finset.subset_univ I)).1 (pointsTo_split_subset (Finset.subset_univ I)).2

/-- The five cells of a task's copies, and the rest of its own cells. -/
abbrev cell (d : Dev nD) (L : grid0.Coords) (s : DmaSem sig) : GSem nD τ sig := (me d L, .dma s)

/-- A tile's scoped copy counter is its own. -/
theorem cell_own (s : DmaSem sig) (h : (SemLoc.dma s : SemLoc sig).isScoped .scVector = true) : cell d L s ∈ ownCells (me d L) :=
  mem_ownCells.mpr ⟨rfl, h⟩
/-- Different counters are different cells. -/
theorem cell_ne {s s' : DmaSem sig} (h : s ≠ s') : cell d L s ≠ cell d L s' := fun e => h (SemLoc.dma.inj (congrArg Prod.snd e))

/-- The tile's five copy counters at zero, apart from its other counters. -/
theorem ownSems0_me : ∃ R : sProp 𝕄,
    (ownSems0 (me d L) : sProp 𝕄)
      = iprop(semVal (cell d L cc0_scratch2.sem) 0 ∗ semVal (cell d L cc0_scoped0.sem) 0 ∗ semVal (cell d L cc0_scoped1.sem) 0
          ∗ semVal (cell d L cc0_scoped2.sem) 0 ∗ semVal (cell d L cc0_scoped3.sem) 0 ∗ R) := by
  refine ⟨bigSep ((((((ownCells (me d L)).erase (cell d L cc0_scratch2.sem)).erase (cell d L cc0_scoped0.sem)).erase (cell d L cc0_scoped1.sem)).erase
    (cell d L cc0_scoped2.sem)).erase (cell d L cc0_scoped3.sem)) fun g => semVal g 0, ?_⟩
  unfold SparseCore.Cfg.ownSems0
  rw [SparseCore.bigSep_erase' (cell_own d L cc0_scratch2.sem (by decide)),
    SparseCore.bigSep_erase' (Finset.mem_erase.mpr ⟨cell_ne d L (by decide), cell_own d L cc0_scoped0.sem (by decide)⟩),
    SparseCore.bigSep_erase' (Finset.mem_erase.mpr ⟨cell_ne d L (by decide), Finset.mem_erase.mpr ⟨cell_ne d L (by decide), cell_own d L cc0_scoped1.sem (by decide)⟩⟩),
    SparseCore.bigSep_erase' (Finset.mem_erase.mpr ⟨cell_ne d L (by decide), Finset.mem_erase.mpr ⟨cell_ne d L (by decide), Finset.mem_erase.mpr ⟨cell_ne d L (by decide), cell_own d L cc0_scoped2.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_own d L cc0_scoped3.sem (by decide)⟩⟩⟩⟩)]

/-- The list buffer and the row buffer are among the tile's own buffers. -/
theorem ownBufs_me : ∃ R : sProp 𝕄,
    (ownBufs (me d L) : sProp 𝕄)
      = iprop((∃ f : Vec F S32 .i32, owns (me d L) sV fullShare f) ∗ (∃ f : Vec F S32x128 .f32, owns (me d L) rV fullShare f) ∗ R) := by
  refine ⟨bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  congr 1
  · exact congrArg _ (funext fun f => (owns_whole (me d L) cc0_scratch0 fullShare f).symm)
  congr 1
  exact congrArg _ (funext fun f => (owns_whole (me d L) cc0_scratch1 fullShare f).symm)

/-- The task of one tile: from its shares and rows to the same, the rows gathered. -/
theorem tile_body (hF : (sc (F := F)).Facts) (hpre : PreOK m) (O : CellTallies nD τ sig (HIx 1)) (W : Waits sig (HIx 1)) (hO : ∀ g, O g none = 0) :
    iprop(levAts (sc (F := F)).L (sc (F := F)).lev ∗ emp ∗ taskIn m d (wid L) ∗ scopedBufs (me d L) ∗ scopedSems0 (me d L) ∗ owes (me d L) O W)
      ⊢ wp frame (wpE (defs₀ (F := F)) 𝒱₀ (me d L) none) Set.univ
          (cc0_gather_kernel (F := F) L t1V (Memref.isWhole_whole _) t2V (Memref.isWhole_whole _) i1V (Memref.isWhole_whole _) i2V (Memref.isWhole_whole _)
            o1V (Memref.isWhole_whole _) o2V (Memref.isWhole_whole _) (Memref.whole cc0_scratch0) (Memref.isWhole_whole _) (Memref.whole cc0_scratch1) (Memref.isWhole_whole _)
            cc0_scratch2 cc0_scoped0 cc0_scoped1 cc0_scoped2 cc0_scoped3)
          fun _ => iprop(taskOut m d (wid L) ∗ scopedBufs (me d L) ∗ scopedSems0 (me d L)
            ∗ ∃ W', ⌜∀ p ∈ W', p ∈ W ∨ p.2 = none⌝ ∗ owes (me d L) O W') := by
  rw [tile_eq]
  obtain ⟨RS, hRS⟩ := ownSems0_me (F := F) d L
  obtain ⟨RB, hRB⟩ := ownBufs_me (F := F) d L
  rw [(sc (F := F)).scopedBufs_V hF d (cV L) (jV L), SparseCore.Cfg.scopedSems0_V (Val := Elt F) d (cV L) (jV L), hRS, hRB]
  have hin1 : ∀ x, ((m (at_ d main_arg2) : Vec F S1024 .i32) ((lstRect L).emb x)).toNat < 16384 := fun x => (hpre d).1 _
  have hin2 : ∀ x, ((m (at_ d main_arg3) : Vec F S1024 .i32) ((lstRect L).emb x)).toNat < 16384 := fun x => (hpre d).2 _
  have e1 := gathered_eq (F := F) L (m (at_ d main_arg0)) (m (at_ d main_arg2)) (hpre d).1 hin1
  have e2 := gathered_eq (F := F) L (m (at_ d main_arg1)) (m (at_ d main_arg3)) (hpre d).2 hin2
  unfold taskIn taskOut taskRes
  rw [← own_t1 (F := F) d L, ← own_t2 (F := F) d L, lst_split (F := F) d main_arg2 (lstRect L).set, lst_split (F := F) d main_arg3 (lstRect L).set,
    ← own_i1 (F := F) d L, ← own_i2 (F := F) d L, ← own_o1 (F := F) d L, ← own_o2 (F := F) d L, ← own_o1 (F := F) d L, ← own_o2 (F := F) d L]
  iintro ⟨#Hlv, -, ⟨Ht1, Ht2, ⟨Hi1, Hj1⟩, ⟨Hi2, Hj2⟩, Ho1, Ho2⟩, ⟨Hs, Hr, Hbufs⟩, ⟨HC, HA, HB, HA', HB', Hsems⟩, HO⟩
  ihave Hmw := (show levAts (sc (F := F)).L (sc (F := F)).lev ⊢ Transfers.MayWaits (me d L) (default : HIx 1) O from
    (sc (F := F)).mayWaits_none (thr := me d L) hO) $$ Hlv
  iapply (half_wp (F := F) L t1V i1V o1V cc0_scoped0.sem cc0_scratch2.sem cc0_scoped1.sem d _ _ _ _ (m (at_ d main_arg0)) _ hin1 O W) $$ [-]
  isplitl [Hmw]; · iexact Hmw
  isplitl [Ht1]; · iexact Ht1
  isplitl [Hi1]; · iexact Hi1
  isplitl [Ho1]; · iexists _; iexact Ho1
  isplitl [Hs]; · iexact Hs
  isplitl [Hr]; · iexact Hr
  isplitl [HA]; · iexact HA
  isplitl [HC]; · iexact HC
  isplitl [HB]; · iexact HB
  isplitl [HO]; · iexact HO
  rw [e1]
  iintro ⟨Hmw, Ht1, Hi1, Ho1, Hs, Hr, HA, HC, HB, %W1, %hW1, HO⟩
  iapply (half_wp (F := F) L t2V i2V o2V cc0_scoped2.sem cc0_scratch2.sem cc0_scoped3.sem d _ _ _ _ (m (at_ d main_arg1)) _ hin2 O W1) $$ [-]
  isplitl [Hmw]; · iexact Hmw
  isplitl [Ht2]; · iexact Ht2
  isplitl [Hi2]; · iexact Hi2
  isplitl [Ho2]; · iexists _; iexact Ho2
  isplitl [Hs]; · iexact Hs
  isplitl [Hr]; · iexact Hr
  isplitl [HA']; · iexact HA'
  isplitl [HC]; · iexact HC
  isplitl [HB']; · iexact HB'
  isplitl [HO]; · iexact HO
  rw [e2]
  iintro ⟨-, Ht2, Hi2, Ho2, Hs, Hr, HA', HC, HB', %W2, %hW2, HO⟩
  sl_step
  isplitl [Ht1 Ht2 Hi1 Hj1 Hi2 Hj2 Ho1 Ho2]
  · isplitl [Ht1]; · iexact Ht1
    isplitl [Ht2]; · iexact Ht2
    isplitl [Hi1 Hj1]; · isplitl [Hi1] <;> iassumption
    isplitl [Hi2 Hj2]; · isplitl [Hi2] <;> iassumption
    isplitl [Ho1]; · iexact Ho1
    iexact Ho2
  isplitl [Hs Hr Hbufs]
  · isplitl [Hs]; · iexact Hs
    isplitl [Hr] <;> iassumption
  isplitl [HA HB HC HA' HB' Hsems]
  · isplitl [HC]; · iexact HC
    isplitl [HA]; · iexact HA
    isplitl [HB]; · iexact HB
    isplitl [HA']; · iexact HA'
    isplitl [HB'] <;> iassumption
  iexists W2; isplitr; swap; · iexact HO
  ipureintro; intro p hp
  rcases hW2 p hp with hp | hp
  · exact hW1 p hp
  · exact .inr hp

end Task

end Cert.Proof.Side

end
-- ==== Proof.Launch.lean ====
/-
  The gather call's 32 tasks under the launch: what the handshakes carry, each task's obligation, and the six arrays
  cut into the tasks' parts and put together again.
-/
module

public import proofs.«01_k».proof.Proof.Gather
public import Idealize.ShloMosaic.Lib.StableHlo.Run
public import Idealize.ShloMosaic.Lib.Pipeline.Kit
public import Idealize.ShloMosaic.Lib.Pipeline.Frame

@[expose] public section

noncomputable section

namespace Cert.Proof.Side

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The program as the launch sees it -/

abbrev ΛP : Labels := Pipeline.Sig Λ₀ (Fin 2) fun p => (pcfgs (F := F) p).Adm
abbrev K : SparseCore.Cfg τ sig (ΛP (F := F)) 1 := sc (F := F)
/-- The gather call runs on two SparseCores. -/
theorem nCore_zero : (K (F := F)).nCore 0 = 2 := rfl
/-- With sixteen tiles each. -/
theorem nSub_zero : (K (F := F)).nSub 0 = 16 := rfl
abbrev D : Defs nD τ sig (Elt F) (ΛP (F := F)) := Pipeline.defs pcfgs defs₀
abbrev 𝒱L : Variants := 𝒱₀.lift

/-- The side conditions of the launch. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, and the pipelines'. -/
abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ 𝕄) := by unfold EP; infer_instance

variable (m : (ℓ : Loc nD τ sig) → Buf (Elt F) ℓ) (ρ : Dev nD → PrngReg)

/-! ## What the handshakes carry -/

/-- The task of SparseCore `c`'s tile `i`. -/
def widOf (c : Fin 2) (i : Fin 16) : Fin 32 := ⟨2 * i.val + c.val, by omega⟩

def P : (K (F := F)).Pay (nD := nD) (Val := Elt F) (Name := ℕ) (U := UU) where
  st := fun q d c => match q with | 0 => bigSep Finset.univ fun i : Fin 16 => taskIn m d (widOf (Fin.cast nCore_zero c) i)
  dn := fun q d c => match q with | 0 => bigSep Finset.univ fun i : Fin 16 => taskOut m d (widOf (Fin.cast nCore_zero c) i)
  go := fun q d c i => match q with | 0 => taskIn m d (widOf (Fin.cast nCore_zero c) (Fin.cast nSub_zero i))
  td := fun q d c i => match q with | 0 => taskOut m d (widOf (Fin.cast nCore_zero c) (Fin.cast nSub_zero i))
  x := fun _ _ => iprop(emp)

instance taskRes_storable (d : Dev nD) (f : Buf (Elt F) (at_ d main_v0_0)) (g : Buf (Elt F) (at_ d main_v0_1)) (w : Fin 32) :
    BI.Storable (upEmb : UEmb _ 𝕄) (taskRes m d f g w) := by
  unfold taskRes; infer_instance

instance P_storable : (P (F := F) m).IsStorable where
  st q d c := match q with
    | 0 => (inferInstance : BI.Storable (upEmb : UEmb _ 𝕄) (bigSep Finset.univ fun i : Fin 16 => taskIn m d (widOf (Fin.cast nCore_zero c) i)))
  dn q d c := match q with
    | 0 => (inferInstance : BI.Storable (upEmb : UEmb _ 𝕄) (bigSep Finset.univ fun i : Fin 16 => taskOut m d (widOf (Fin.cast nCore_zero c) i)))
  go q d c i := match q with
    | 0 => (inferInstance : BI.Storable (upEmb : UEmb _ 𝕄) (taskIn m d (widOf (Fin.cast nCore_zero c) (Fin.cast nSub_zero i))))
  td q d c i := match q with
    | 0 => (inferInstance : BI.Storable (upEmb : UEmb _ 𝕄) (taskOut m d (widOf (Fin.cast nCore_zero c) (Fin.cast nSub_zero i))))

/-! ## Each task's obligation -/

def coordsV (c : Fin (grid0.bound 0)) (s : Fin (grid0.bound 1)) : grid0.Coords :=
  fun | 0 => c | 1 => s | ⟨_ + 2, h⟩ => absurd h (Nat.not_lt.2 (Nat.le_add_left _ _))

/-- The procedure of a tile is its task. -/
theorem defs₀_vector (c : Fin τ.nSC) (s : Fin τ.nSub) :
    defs₀ (F := F) (.scVector c s) 0 ()
      = SparseCore.onTile hcore0 hsub0 (fun c s => cc0_gather_kernel (coordsV c s)
          t1V (Memref.isWhole_whole _) t2V (Memref.isWhole_whole _) i1V (Memref.isWhole_whole _) i2V (Memref.isWhole_whole _)
          o1V (Memref.isWhole_whole _) o2V (Memref.isWhole_whole _) (Memref.whole cc0_scratch0) (Memref.isWhole_whole _) (Memref.whole cc0_scratch1) (Memref.isWhole_whole _)
          cc0_scratch2 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

abbrev v₀ : (𝒱L).V := Sum.inl none

set_option maxRecDepth 16384 in
theorem tileObl (hpre : PreOK m) : (K (F := F)).TileObl (D (F := F)) 𝒱L (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) launchFacts hpre O W hO).trans (wp_mono frame _ _ fun _ => obl_post)

/-- A SparseCore's part is its tiles' parts, and back. -/
theorem vecSplit : (K (F := F)).VecSplit' (P m) 0 := by
  intro d c
  change (bigSep Finset.univ fun i : Fin 16 => taskIn m d (widOf (Fin.cast nCore_zero c) i)) ⊢ |={Set.univ}=> iprop(
    (bigSep Finset.univ fun i : Fin 16 => taskIn m d (widOf (Fin.cast nCore_zero c) i))
      ∗ ((bigSep Finset.univ fun i : Fin 16 => taskOut m d (widOf (Fin.cast nCore_zero c) i))
        -∗ (bigSep Finset.univ fun i : Fin 16 => taskOut m d (widOf (Fin.cast nCore_zero c) i))))
  iintro H; imodintro
  isplitl [H]; · iexact H
  iintro H; iexact H

/-! ## The arrays cut into the tasks' parts -/

/-- Different tasks have different rows. -/
theorem rowsOf_disjoint : ∀ i ∈ (Finset.univ : Finset (Fin 32)), ∀ j ∈ (Finset.univ : Finset (Fin 32)), i ≠ j → Disjoint (rowsOf i) (rowsOf j) := by
  intro i _ j _ h
  refine Finset.disjoint_left.mpr fun x hi hj => h (Fin.ext ?_)
  exact (Finset.mem_filter.mp hi).2.symm.trans (Finset.mem_filter.mp hj).2
/-- The tasks' rows are all rows. -/
theorem rowsOf_cover : (Finset.univ : Finset (Fin 32)).biUnion rowsOf = Finset.univ := by
  ext x
  have hx : (x 0).val < 1024 := (x 0).isLt
  simp only [Finset.mem_biUnion, Finset.mem_univ, true_and, iff_true]
  exact ⟨⟨(x 0).val / 32, by omega⟩, Finset.mem_filter.mpr ⟨Finset.mem_univ _, rfl⟩⟩

/-- Tiles of SparseCores, numbered. -/
def taskEquiv : Fin 2 × Fin 16 ≃ Fin 32 where
  toFun p := widOf p.1 p.2
  invFun w := (⟨w.val % 2, by omega⟩, ⟨w.val / 2, by omega⟩)
  left_inv := by rintro ⟨c, i⟩; ext <;> simp only [widOf] <;> omega
  right_inv := by intro w; ext; simp only [widOf]; omega

/-- The six arrays of the call, at results `f`, `g`. -/
abbrev sixArrays (d : Dev nD) (f : Buf (Elt F) (at_ d main_v0_0)) (g : Buf (Elt F) (at_ d main_v0_1)) : sProp 𝕄 :=
  iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_v0_0 ↦{fullShare} f) ∗ (at_ d main_v0_1 ↦{fullShare} g))

/-- The six arrays are the 32 tasks' parts. -/
theorem sixArrays_tasks (d : Dev nD) (f : Buf (Elt F) (at_ d main_v0_0)) (g : Buf (Elt F) (at_ d main_v0_1)) :
    sixArrays m d f g = bigSep Finset.univ fun c : Fin 2 => bigSep Finset.univ fun i : Fin 16 => taskRes m d f g (widOf c i) := by
  have hs : ∀ (b : Ref sig .tc), (at_ d b ↦{fullShare} m (at_ d b) : sProp 𝕄) = bigSep Finset.univ fun w : Fin 32 => at_ d b ↦{shareOf w} m (at_ d b) :=
    fun b => pointsTo_piecesOf Finset.univ (m (at_ d b)) (by decide) fullShare
  have hf : (at_ d main_v0_0 ↦{fullShare} f : sProp 𝕄) = bigSep Finset.univ fun w : Fin 32 => at_ d main_v0_0 ↦[rowsOf w]{fullShare} f := by
    rw [← pointsTo_biUnion Finset.univ (ℓ := at_ d main_v0_0) rowsOf rowsOf_disjoint, rowsOf_cover]; try rfl
  have hg : (at_ d main_v0_1 ↦{fullShare} g : sProp 𝕄) = bigSep Finset.univ fun w : Fin 32 => at_ d main_v0_1 ↦[rowsOf w]{fullShare} g := by
    rw [← pointsTo_biUnion Finset.univ (ℓ := at_ d main_v0_1) rowsOf rowsOf_disjoint, rowsOf_cover]; try rfl
  have e := bigSep_univ_equiv taskEquiv (fun w => taskRes m d f g w)
  rw [bigSep_univ_prod] at e
  refine Eq.trans ?_ e
  unfold sixArrays taskRes
  rw [hs, hs, hs, hs, hf, hg]
  simp only [bigSep_sep']

/-- What the two SparseCores start with is the six arrays as they were. -/
theorem st0_eq (d : Dev nD) : (bigSep Finset.univ fun c : Fin ((K (F := F)).nCore 0) => (P m).st 0 d c) = sixArrays m d (m (at_ d main_v0_0)) (m (at_ d main_v0_1)) :=
  (sixArrays_tasks m d _ _).symm
/-- What they end with is the six arrays with both results gathered. -/
theorem dn0_eq (d : Dev nD) : (bigSep Finset.univ fun c : Fin ((K (F := F)).nCore 0) => (P m).dn 0 d c) = sixArrays m d (rows1 m d) (rows2 m d) :=
  (sixArrays_tasks m d _ _).symm

end Cert.Proof.Side

end
-- ==== Proof.Region1.lean ====
/-
  The distance kernel at one grid point, and the first distance call of @main as a region of the launch: entered
  from any contents of the unscoped buffers, left with the result's buffer at `sideLoss`.
-/
module

public import proofs.«01_k».proof.Proof.Steps
public import proofs.«01_k».proof.Proof.Gen.KernelIdeal.Launch
public import proofs.«01_k».proof.Proof.Gen.KernelIdeal.Points
public import Idealize.ShloMosaic.Lib.Pipeline.Value

@[expose] public section

noncomputable section

namespace Cert.Proof.Side

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

/-- Block `n` of the keys: rows `256·n` and the 255 after it. -/
def keyBlock (A : Vec F S16384x128 .f32) (n : ℕ) : Vec F S256x128 .f32 :=
  fun j => A fun
    | ⟨0, _⟩ => ⟨(256 * n + (j 0).val) % 16384, Nat.mod_lt _ (by decide)⟩
    | ⟨1, _⟩ => ⟨(j 1).val, (j 1).isLt⟩

/-- The running rows after the first `n` blocks. -/
def rows (A : Vec F S16384x128 .f32) (q : Vec F S128x1024 .f32) : ℕ → Vec F S16x1024 .f32
  | 0 => fresh bigC
  | n + 1 => merge bigC (keyBlock A n) q (rows A q n)

/-- What one distance call computes, from the keys and the two sides' gathered columns. -/
def sideLoss (A : Vec F S16384x128 .f32) (q p : Vec F S128x1024 .f32) : Vec F S1x1 .f32 :=
  loss q p (firstTen (rows A q 64))

section
variable (c : Dev nD) (i : grid1.Coords) (arg1 : Memref sig .tc .vmem S256x128 .f32) (harg1 : arg1.IsWhole)
  (arg2 : Memref sig .tc .vmem S128x1024 .f32) (harg2 : arg2.IsWhole) (arg3 : Memref sig .tc .vmem S128x1024 .f32) (harg3 : arg3.IsWhole)
  (arg4 : Memref sig .tc .vmem S1x1 .f32) (harg4 : arg4.IsWhole) (arg5 : Memref sig .tc .vmem S16x1024 .f32) (harg5 : arg5.IsWhole)
  (b : Vec F S256x128 .f32) (q p : Vec F S128x1024 .f32) (o : Vec F S1x1 .f32) (buf : Vec F S16x1024 .f32)

/-- The body at one grid point: the running rows merged with the block, from the constant at the first point; the
    loss written at the last. -/
theorem side_point (E : Set ℕ) (Q : PUnit → sProp 𝕄) (hx : ¬ (firstC i = 1#1 ∧ k1_cond2 i = 1#1)) :
    iprop(owns (c : Thread nD τ) arg1 fullShare b ∗ owns (c : Thread nD τ) arg2 fullShare q ∗ owns (c : Thread nD τ) arg3 fullShare p
        ∗ owns (c : Thread nD τ) arg4 fullShare o ∗ owns (c : Thread nD τ) arg5 fullShare buf
      ∗ (iprop(owns (c : Thread nD τ) arg1 fullShare b ∗ owns (c : Thread nD τ) arg2 fullShare q ∗ owns (c : Thread nD τ) arg3 fullShare p
            ∗ owns (c : Thread nD τ) arg4 fullShare (if k1_cond2 i = 1#1 then loss q p (firstTen (merge bigC b q buf)) else o)
            ∗ owns (c : Thread nD τ) arg5 fullShare (merge bigC b q (if firstC i = 1#1 then fresh bigC else buf)))
          -∗ Q ⟨⟩))
    ⊢ wp frame (wpE (defs₀ (F := F)) 𝒱₀ c none) E (cc1__side_kernel (F := F) i arg1 harg1 arg2 harg2 arg3 harg3 arg4 harg4 arg5 harg5) Q := by
  iintro ⟨H1, H2, H3, H4, H5, Hk⟩
  by_cases h1 : firstC i = 1#1
  · have h2 : ¬ k1_cond2 i = 1#1 := fun h => hx ⟨h1, h⟩
    rw [side1_first _ _ _ _ _ _ _ _ _ _ _ h1 h2, if_neg h2, if_pos h1]
    iapply init_wp (buf := buf)
    isplitl [H5]; · iexact H5
    iintro H5
    iapply step_wp (b := b) (q := q) (buf := fresh bigC)
    isplitl [H1]; · iexact H1
    isplitl [H2]; · iexact H2
    isplitl [H5]; · iexact H5
    iintro ⟨H1, H2, H5⟩
    rw [show (pure ⟨⟩ : Prg F) = Prog.ret ⟨⟩ from rfl, wp_ret]
    imodintro
    iapply Hk
    isplitl [H1]; · iexact H1
    isplitl [H2]; · iexact H2
    isplitl [H3]; · iexact H3
    isplitl [H4] <;> iassumption
  · rw [side1_later _ _ _ _ _ _ _ _ _ _ _ h1, if_neg h1]
    iapply step_wp (b := b) (q := q) (buf := buf)
    isplitl [H1]; · iexact H1
    isplitl [H2]; · iexact H2
    isplitl [H5]; · iexact H5
    iintro ⟨H1, H2, H5⟩
    by_cases h2 : k1_cond2 i = 1#1
    · rw [if_pos h2, if_pos h2]
      iapply end_wp (q := q) (p := p) (o := o) (buf := merge bigC b q buf)
      isplitl [H2]; · iexact H2
      isplitl [H3]; · iexact H3
      isplitl [H4]; · iexact H4
      isplitl [H5]; · iexact H5
      iintro ⟨H2, H3, H4, H5⟩
      iapply Hk
      isplitl [H1]; · iexact H1
      isplitl [H2]; · iexact H2
      isplitl [H3]; · iexact H3
      isplitl [H4] <;> iassumption
    · rw [if_neg h2, if_neg h2]
      rw [show (pure ⟨⟩ : Prg F) = Prog.ret ⟨⟩ from rfl, wp_ret]
      imodintro
      iapply Hk
      isplitl [H1]; · iexact H1
      isplitl [H2]; · iexact H2
      isplitl [H3]; · iexact H3
      isplitl [H4] <;> iassumption
end

/-- The first-point test, on the 64 points. -/
theorem firstC_iff : ∀ t : Fin grid1.N, firstC (grid1.coords t) = 1#1 ↔ t.val = 0 := by decide
/-- The last-point test, on the 64 points. -/
theorem lastC_iff : ∀ t : Fin grid1.N, k1_cond2 (grid1.coords t) = 1#1 ↔ t.val = 63 := by decide

/-- The grid's one coordinate is the point's number. -/
theorem coord1 : ∀ t : Fin grid1.N, ((grid1.coords t) 0).val = t.val := by decide

/-! ## The region's proof data -/

variable (V : (c : Dev nD) → (b : Ref sig .tc) → Buf (Elt F) ((c : Thread nD τ).loc b))

/-- What the fetches stage of the keys. -/
abbrev stg1 (c : Dev nD) (t : Fin cfg1.N) : (cfg1.win 0).block.Idx → Elt F (cfg1.win 0).elt :=
  ((cfg1.win 0).blk t).view.read (Elt F) (V c main_arg1)

/-- The block that iteration `t` is given is the table's block `t`. -/
theorem stg1_eq (c : Dev nD) (t : Fin cfg1.N) : stg1 V c t = keyBlock (V c main_arg1) t.val := by
  have ht : t.val < 64 := lt_of_lt_of_eq t.isLt N_1
  funext j
  refine congrArg (V c main_arg1) (funext fun a => Fin.ext ?_)
  match a with
  | ⟨0, _⟩ =>
    have hj : (j 0).val < 256 := (j 0).isLt
    show ((BitVec.ofNat 32 ((grid1.coords t) 0).val).toNat) * 256 + 1 * (j 0).val = (256 * t.val + (j 0).val) % 16384
    rw [show ((grid1.coords t) 0).val = t.val from coord1 t]
    rw [BitVec.toNat_ofNat, Nat.mod_eq_of_lt (by omega), Nat.mod_eq_of_lt (by omega)]; omega
  | ⟨1, _⟩ => show 0 * 128 + 1 * (j 1).val = (j 1).val; omega

/-- The whole-array windows stage the arrays themselves. -/
theorem whole1_1 (c : Dev nD) (t : Fin cfg1.N) : ((cfg1.win 1).blk t).view.read (Elt F) (V c main_v1) = V c main_v1 := by
  funext j
  refine congrArg (V c main_v1) (funext fun a => Fin.ext ?_)
  match a with
  | ⟨0, _⟩ => show 0 * 128 + 1 * (j 0).val = (j 0).val; omega
  | ⟨1, _⟩ => show 0 * 1024 + 1 * (j 1).val = (j 1).val; omega

/-- The other side's queries are read whole. -/
theorem whole1_2 (c : Dev nD) (t : Fin cfg1.N) : ((cfg1.win 2).blk t).view.read (Elt F) (V c main_v2) = V c main_v2 := by
  funext j
  refine congrArg (V c main_v2) (funext fun a => Fin.ext ?_)
  match a with
  | ⟨0, _⟩ => show 0 * 128 + 1 * (j 0).val = (j 0).val; omega
  | ⟨1, _⟩ => show 0 * 1024 + 1 * (j 1).val = (j 1).val; omega

/-- The result of the first distance call. -/
abbrev out1 (c : Dev nD) : Vec F S1x1 .f32 := sideLoss (V c main_arg1) (V c main_v1) (V c main_v2)

/-- Between points: the running rows as the blocks so far leave them, and what is owed to give the scoped buffers back. -/
def Φ1 (c : Dev nD) (n : ℕ) : sProp 𝕄 :=
  iprop(∃ X, ⌜n ≠ 0 → X = rows (V c main_arg1) (V c main_v1) n⌝ ∗ owns (c : Thread nD τ) (Memref.whole cc1_scratch0) fullShare X
    ∗ (∀ f : Buf (Elt F) ((c : Thread nD τ).loc cc1_scratch0), (((c : Thread nD τ).loc cc1_scratch0) ↦{fullShare} f)
        -∗ Pipeline.scopedRest (Ix := HIx 1) (Name := ℕ) (U := UU) (Lvl := ℕ) (Val := Elt F) spec1 c))

/-- What the waits recorded before a region may be. -/
def seen (c : Dev nD) : Set (SemLoc sig × HIx 1) := {x | (sc (F := F)).lev (c.tc, x.1) x.2 ≤ 8}

/-- The region's proof data. -/
def dat1 (c : Dev nD) : Dat τ (Elt F) (HIx 1) ℕ UU ℕ cfg1 c where
  A w := V c (Pipeline.arrRef spec1 w)
  after w t := match w with
    | ⟨0, _⟩ => stg1 V c t
    | ⟨1, _⟩ => V c main_v1
    | ⟨2, _⟩ => V c main_v2
    | ⟨3, _⟩ => out1 V c
  Φ t := Φ1 V c t.val
  q _ := fullShare
  owed _ := 0
  recorded _ := seen (F := F) c

/-- An iteration finds its block of keys. -/
theorem before1_0 (c : Dev nD) (t : Fin cfg1.N) (d) : (dat1 V c).before 0 t d = keyBlock (V c main_arg1) t.val := by
  unfold Dat.before; rw [if_pos (fetch1_0 t)]; exact stg1_eq V c t

/-- It finds its queries. -/
theorem before1_1 (c : Dev nD) (t : Fin cfg1.N) (d) : (dat1 V c).before 1 t d = V c main_v1 := by
  rw [(dat1 V c).before_in_eq_fetched 1 rfl (fun _ => rfl) (fun _ _ _ => rfl) (fun t => (whole1_1 V c t).symm)]
  exact whole1_1 V c t

/-- It finds the other side's queries. -/
theorem before1_2 (c : Dev nD) (t : Fin cfg1.N) (d) : (dat1 V c).before 2 t d = V c main_v2 := by
  rw [(dat1 V c).before_in_eq_fetched 2 rfl (fun _ => rfl) (fun _ _ _ => rfl) (fun t => (whole1_2 V c t).symm)]
  exact whole1_2 V c t

/-- The body takes each iteration to the next. -/
theorem body1 (c : Dev nD) : BodyObligation (dat1 V c) (defs₀ (F := F)) 𝒱₀ (none : HIx 1) Set.univ := fun t => by
  rw [bigSep_W1, bigSep_W1]
  rw [show (dat1 V c).Φ t.castSucc = Φ1 V c t.val from rfl, show (dat1 V c).Φ t.succ = Φ1 V c (t.val + 1) from rfl,
    show (dat1 V c).owesAt none t.succ = (dat1 V c).owesAt none t.castSucc from rfl]
  show _ ⊢ wp frame (wpE (defs₀ (F := F)) 𝒱₀ (c : Thread nD τ) none) Set.univ (bodyAt1 t) _
  dsimp only
  unfold Φ1
  have hx : ¬ (firstC (grid1.coords t) = 1#1 ∧ k1_cond2 (grid1.coords t) = 1#1) := by
    rw [firstC_iff, lastC_iff]; omega
  iintro ⟨⟨%X, %hX, HS, Hback⟩, Howes, ⟨%d0, H0⟩, ⟨%d1, H1⟩, ⟨%d2, H2⟩, ⟨%d3, H3⟩⟩
  rw [before1_0, before1_1, before1_2]
  have hrows : merge bigC (keyBlock (V c main_arg1) t.val) (V c main_v1) (if firstC (grid1.coords t) = 1#1 then fresh bigC else X)
      = rows (V c main_arg1) (V c main_v1) (t.val + 1) := by
    show _ = merge bigC (keyBlock (V c main_arg1) t.val) (V c main_v1) (rows (V c main_arg1) (V c main_v1) t.val)
    congr 1
    by_cases h : firstC (grid1.coords t) = 1#1
    · rw [if_pos h, (firstC_iff t).mp h]; rfl
    · rw [if_neg h, hX fun e => h ((firstC_iff t).mpr e)]
  have hb := fun a1 w1 a2 w2 a3 w3 a4 w4 a5 w5 => side_point (F := F) c (grid1.coords t) a1 w1 a2 w2 a3 w3 a4 w4 a5 w5
    (keyBlock (V c main_arg1) t.val) (V c main_v1) (V c main_v2) ((dat1 V c).before 3 t d3) X Set.univ
  iapply (hb _ _ _ _ _ _ _ _ _ _ _ hx)
  isplitl [H0]; · iexact H0
  isplitl [H1]; · iexact H1
  isplitl [H2]; · iexact H2
  isplitl [H3]; · iexact H3
  isplitl [HS]; · iexact HS
  rw [hrows]
  iintro ⟨H0, H1, H2, H3, HS⟩
  isplitl [HS Hback]
  · iexists _; isplitr; swap
    · isplitl [HS]; · iexact HS
      iexact Hback
    ipureintro; exact fun _ => rfl
  isplitl [Howes]; · iexact Howes
  isplitl [H0]; · rw [show (dat1 V c).after 0 t = keyBlock (V c main_arg1) t.val from stg1_eq V c t]; iexact H0
  isplitl [H1]; · iexact H1
  isplitl [H2]; · iexact H2
  by_cases h2 : k1_cond2 (grid1.coords t) = 1#1
  · have hid : idle1 3 (grid1.coords t) = false := by show (!(k1_cond2 (grid1.coords t) == 1#1)) = false; rw [h2]; rfl
    rw [if_pos h2, hid]; dsimp only
    have h63 : t.val = 63 := (lastC_iff t).mp h2
    have e : merge bigC (keyBlock (V c main_arg1) t.val) (V c main_v1) X = rows (V c main_arg1) (V c main_v1) 64 := by
      rw [hX (by omega), h63]; rfl
    rw [e]; iexact H3
  · have hfl : (win1 3).flush t = false := by
      have := (flush1_3 t).not; have h63 := (lastC_iff t).not.mp h2
      have ht : t.val < 64 := lt_of_lt_of_eq t.isLt N_1
      exact Bool.eq_false_iff.mpr (this.mpr (by omega))
    have hid : idle1 3 (grid1.coords t) = true := by show (!(k1_cond2 (grid1.coords t) == 1#1)) = true; simpa using h2
    rw [if_neg h2, hid, hfl]; dsimp only
    iexists d3; iexact H3

/-! ## The region over the thread state -/

/-- A proof data for a pipeline an entry does not run: anything. -/
def junkDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- No pallas_call of the program prefetches a table. -/
abbrev adm : (p : Fin 2) → (pcfgs (F := F) p).Adm := fun p => (cfgs p).toPCfg_adm

/-- The first call's proof data family. -/
def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => junkDat c

/-- The waits a core has recorded, all at levels of the launch before the first distance call. -/
def calm (c : Dev nD) : sProp 𝕄 := Pipeline.owesWithin c (0 : CellTallies nD τ sig (HIx 1)) (seen (F := F) c)

/-- The waits of a pipeline stay within those levels. -/
theorem calm_of_bound (c : Dev nD) (cfg : Pipeline.Cfg sig Λ₀) :
    (Pipeline.owesWithin c (0 : CellTallies nD τ sig (HIx 1)) (seen (F := F) c ∪ cfg.waitPairs (none : HIx 1)) : sProp 𝕄) ⊢ calm c := by
  unfold calm Pipeline.owesWithin
  iintro ⟨%W, %hW, HO⟩
  iexists W; isplitr; swap; (· iexact HO); ipureintro
  intro x hx
  rcases hW hx with h | ⟨w, s, rfl⟩
  · exact h
  · exact Nat.zero_le 8

/-- The result's array ends at the loss. -/
theorem arrAt1 (c : Dev nD) : (dat1 V c).arrAt 3 cfg1.N = out1 V c := by
  refine (dat1 V c).arrAt_eq_of_cover 3 (out1 V c) (fun t _ => ?_) fun i => ?_
  · show out1 V c = _
    funext j
    refine congrArg (out1 V c) (funext fun a => Fin.ext ?_)
    match a with
    | ⟨0, _⟩ => show (j 0).val = 0 * 1 + 1 * (j 0).val; omega
    | ⟨1, _⟩ => show (j 1).val = 0 * 1 + 1 * (j 1).val; omega
  · have hN : 63 < cfg1.N := lt_of_lt_of_eq (by decide : 63 < 64) N_1.symm
    refine ⟨⟨63, hN⟩, (flush1_3 _).mpr rfl, ?_⟩
    have h := ((cfg1.win 3).blk ⟨63, hN⟩).view.emb_mem_set (i : S1x1.Idx)
    have e : ((cfg1.win 3).blk ⟨63, hN⟩).view.emb (i : S1x1.Idx) = i := by
      funext a
      refine Fin.ext ?_
      match a with
      | ⟨0, _⟩ => show 0 * 1 + 1 * (i 0).val = (i 0).val; omega
      | ⟨1, _⟩ => show 0 * 1 + 1 * (i 1).val = (i 1).val; omega
    exact e ▸ h

variable (Vp : (c : Dev nD) → (b : Ref sig .tc) → Buf (Elt F) ((c : Thread nD τ).loc b))

set_option backward.isDefEq.respectTransparency.types false in
/-- The first distance call over the thread state: every unscoped buffer at `V`, left at `Vp`. -/
def reg1 (hVp_out : ∀ c, Vp c main_v3 = out1 V c) (hVp_ne : ∀ c (b : Ref sig .tc), b ≠ main_v3 → Vp c b = V c b) :
    Pipeline.RegionSeg (pcfgs (F := F)) adm (pdats1 V) (none : HIx 1) defs₀ 𝒱₀ (sc (F := F)).L (sc (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ _ _ 0 fun _ _ => rfl
  pre c := iprop(unscopedBufs c (V c) ∗ calm c)
  post c := iprop(unscopedBufs c (Vp c) ∗ calm c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V) launch1.win launch1.arr_whole c
      ((pdats1 V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold calm Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats1 V 0 c).Φ 0 = Φ1 V c 0 from rfl]
    unfold Φ1
    rw [show Pipeline.scopedRest (Ix := HIx 1) (Name := ℕ) (U := UU) (Lvl := ℕ) (Val := Elt F) (Pipeline.pin (pcfgs (F := F)) adm 0).spec c = _ from scopedRest1_eq c, scopedRest1_eq c]
    simp only [owns_whole_eq]
    iintro ⟨-, -, ⟨⟨%f, H⟩, Hr⟩⟩
    iexists f
    isplitr; · ipureintro; exact fun h => absurd rfl h
    isplitl [H]; · iexists f; isplitr; · ipureintro; rfl
                   iexact H
    iintro %g Hg
    isplitl [Hg]; · iexists g; iexact Hg
    iexact Hr
  hout c := by
    rw [Pipeline.ownSems0_none, show (pdats1 V 0 c).Φ (Fin.last _) = Φ1 V c cfg1.N from rfl]
    unfold Φ1
    simp only [owns_whole_eq]
    iintro ⟨%X, -, ⟨%f, -, H⟩, Hb⟩
    isplitr; · iempintro
    isplitr; · iempintro
    iapply Hb; iexact H
  hexit c := by
    have hjoin := Pipeline.unscopedBufs_of_arrays (p := 0) (pcfgs (F := F)) adm (Ix := HIx 1) (Name := ℕ) (U := UU) (Lvl := ℕ) launch1.win launch1.arr_whole c
      (pdats1 V) ((pdats1 V 0 c).share_full fun _ => rfl) (V c) (Vp c) ((pdats1 V 0 c).arrAt · cfg1.N)
      (fun w => by
        fin_cases w
        · exact ((pdats1 V 0 c).arrAt_in 0 rfl _).trans (hVp_ne c main_arg1 (by decide)).symm
        · exact ((pdats1 V 0 c).arrAt_in 1 rfl _).trans (hVp_ne c main_v1 (by decide)).symm
        · exact ((pdats1 V 0 c).arrAt_in 2 rfl _).trans (hVp_ne c main_v2 (by decide)).symm
        · exact (arrAt1 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply calm_of_bound; iexact HO

end Cert.Proof.Side

end
-- ==== Proof.Region2.lean ====
/-
  The second distance call of @main as a region of the launch: the first one's account with the keys and the two
  sides' columns exchanged.
-/
module

public import proofs.«01_k».proof.Proof.Region1
public import proofs.«01_k».proof.Proof.Gen.KernelIdeal.Launch
public import proofs.«01_k».proof.Proof.Gen.KernelIdeal.Points
public import Idealize.ShloMosaic.Lib.Pipeline.Value

@[expose] public section

noncomputable section

namespace Cert.Proof.Side

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

section
variable (c : Dev nD) (i : grid1.Coords) (arg1 : Memref sig .tc .vmem S256x128 .f32) (harg1 : arg1.IsWhole)
  (arg2 : Memref sig .tc .vmem S128x1024 .f32) (harg2 : arg2.IsWhole) (arg3 : Memref sig .tc .vmem S128x1024 .f32) (harg3 : arg3.IsWhole)
  (arg4 : Memref sig .tc .vmem S1x1 .f32) (harg4 : arg4.IsWhole) (arg5 : Memref sig .tc .vmem S16x1024 .f32) (harg5 : arg5.IsWhole)
  (b : Vec F S256x128 .f32) (q p : Vec F S128x1024 .f32) (o : Vec F S1x1 .f32) (buf : Vec F S16x1024 .f32)

/-- `side_point` for the second kernel, whose text is the first's. -/
theorem side_point2 (E : Set ℕ) (Q : PUnit → sProp 𝕄) (hx : ¬ (firstC i = 1#1 ∧ k1_cond2 i = 1#1)) :
    iprop(owns (c : Thread nD τ) arg1 fullShare b ∗ owns (c : Thread nD τ) arg2 fullShare q ∗ owns (c : Thread nD τ) arg3 fullShare p
        ∗ owns (c : Thread nD τ) arg4 fullShare o ∗ owns (c : Thread nD τ) arg5 fullShare buf
      ∗ (iprop(owns (c : Thread nD τ) arg1 fullShare b ∗ owns (c : Thread nD τ) arg2 fullShare q ∗ owns (c : Thread nD τ) arg3 fullShare p
            ∗ owns (c : Thread nD τ) arg4 fullShare (if k1_cond2 i = 1#1 then loss q p (firstTen (merge bigC b q buf)) else o)
            ∗ owns (c : Thread nD τ) arg5 fullShare (merge bigC b q (if firstC i = 1#1 then fresh bigC else buf)))
          -∗ Q ⟨⟩))
    ⊢ wp frame (wpE (defs₀ (F := F)) 𝒱₀ c none) E (cc2__side_kernel (F := F) i arg1 harg1 arg2 harg2 arg3 harg3 arg4 harg4 arg5 harg5) Q := by
  rw [side2_eq]; exact side_point c i arg1 harg1 arg2 harg2 arg3 harg3 arg4 harg4 arg5 harg5 b q p o buf E Q hx
end

/-! ## The region's proof data -/

variable (V : (c : Dev nD) → (b : Ref sig .tc) → Buf (Elt F) ((c : Thread nD τ).loc b))

/-- What the fetches stage of the keys. -/
abbrev stg2 (c : Dev nD) (t : Fin cfg2.N) : (cfg2.win 0).block.Idx → Elt F (cfg2.win 0).elt :=
  ((cfg2.win 0).blk t).view.read (Elt F) (V c main_arg0)

/-- The block that iteration `t` is given is the table's block `t`. -/
theorem stg2_eq (c : Dev nD) (t : Fin cfg2.N) : stg2 V c t = keyBlock (V c main_arg0) t.val := by
  have ht : t.val < 64 := lt_of_lt_of_eq t.isLt N_2
  funext j
  refine congrArg (V c main_arg0) (funext fun a => Fin.ext ?_)
  match a with
  | ⟨0, _⟩ =>
    have hj : (j 0).val < 256 := (j 0).isLt
    show ((BitVec.ofNat 32 ((grid2.coords t) 0).val).toNat) * 256 + 1 * (j 0).val = (256 * t.val + (j 0).val) % 16384
    rw [show ((grid2.coords t) 0).val = t.val from coord1 t]
    rw [BitVec.toNat_ofNat, Nat.mod_eq_of_lt (by omega), Nat.mod_eq_of_lt (by omega)]; omega
  | ⟨1, _⟩ => show 0 * 128 + 1 * (j 1).val = (j 1).val; omega

/-- The whole-array windows stage the arrays themselves. -/
theorem whole2_1 (c : Dev nD) (t : Fin cfg2.N) : ((cfg2.win 1).blk t).view.read (Elt F) (V c main_v2) = V c main_v2 := by
  funext j
  refine congrArg (V c main_v2) (funext fun a => Fin.ext ?_)
  match a with
  | ⟨0, _⟩ => show 0 * 128 + 1 * (j 0).val = (j 0).val; omega
  | ⟨1, _⟩ => show 0 * 1024 + 1 * (j 1).val = (j 1).val; omega

/-- The other side's queries are read whole. -/
theorem whole2_2 (c : Dev nD) (t : Fin cfg2.N) : ((cfg2.win 2).blk t).view.read (Elt F) (V c main_v1) = V c main_v1 := by
  funext j
  refine congrArg (V c main_v1) (funext fun a => Fin.ext ?_)
  match a with
  | ⟨0, _⟩ => show 0 * 128 + 1 * (j 0).val = (j 0).val; omega
  | ⟨1, _⟩ => show 0 * 1024 + 1 * (j 1).val = (j 1).val; omega

/-- The result of the second distance call. -/
abbrev out2 (c : Dev nD) : Vec F S1x1 .f32 := sideLoss (V c main_arg0) (V c main_v2) (V c main_v1)

/-- Between points: the running rows as the blocks so far leave them, and what is owed to give the scoped buffers back. -/
def Φ2 (c : Dev nD) (n : ℕ) : sProp 𝕄 :=
  iprop(∃ X, ⌜n ≠ 0 → X = rows (V c main_arg0) (V c main_v2) n⌝ ∗ owns (c : Thread nD τ) (Memref.whole cc2_scratch0) fullShare X
    ∗ (∀ f : Buf (Elt F) ((c : Thread nD τ).loc cc2_scratch0), (((c : Thread nD τ).loc cc2_scratch0) ↦{fullShare} f)
        -∗ Pipeline.scopedRest (Ix := HIx 1) (Name := ℕ) (U := UU) (Lvl := ℕ) (Val := Elt F) spec2 c))

/-- The region's proof data. -/
def dat2 (c : Dev nD) : Dat τ (Elt F) (HIx 1) ℕ UU ℕ cfg2 c where
  A w := V c (Pipeline.arrRef spec2 w)
  after w t := match w with
    | ⟨0, _⟩ => stg2 V c t
    | ⟨1, _⟩ => V c main_v2
    | ⟨2, _⟩ => V c main_v1
    | ⟨3, _⟩ => out2 V c
  Φ t := Φ2 V c t.val
  q _ := fullShare
  owed _ := 0
  recorded _ := seen (F := F) c

/-- An iteration finds its block of keys. -/
theorem before2_0 (c : Dev nD) (t : Fin cfg2.N) (d) : (dat2 V c).before 0 t d = keyBlock (V c main_arg0) t.val := by
  unfold Dat.before; rw [if_pos (fetch2_0 t)]; exact stg2_eq V c t

/-- It finds its queries. -/
theorem before2_1 (c : Dev nD) (t : Fin cfg2.N) (d) : (dat2 V c).before 1 t d = V c main_v2 := by
  rw [(dat2 V c).before_in_eq_fetched 1 rfl (fun _ => rfl) (fun _ _ _ => rfl) (fun t => (whole2_1 V c t).symm)]
  exact whole2_1 V c t

/-- It finds the other side's queries. -/
theorem before2_2 (c : Dev nD) (t : Fin cfg2.N) (d) : (dat2 V c).before 2 t d = V c main_v1 := by
  rw [(dat2 V c).before_in_eq_fetched 2 rfl (fun _ => rfl) (fun _ _ _ => rfl) (fun t => (whole2_2 V c t).symm)]
  exact whole2_2 V c t

/-- The body takes each iteration to the next. -/
theorem body2 (c : Dev nD) : BodyObligation (dat2 V c) (defs₀ (F := F)) 𝒱₀ (none : HIx 1) Set.univ := fun t => by
  rw [bigSep_W2, bigSep_W2]
  rw [show (dat2 V c).Φ t.castSucc = Φ2 V c t.val from rfl, show (dat2 V c).Φ t.succ = Φ2 V c (t.val + 1) from rfl,
    show (dat2 V c).owesAt none t.succ = (dat2 V c).owesAt none t.castSucc from rfl]
  show _ ⊢ wp frame (wpE (defs₀ (F := F)) 𝒱₀ (c : Thread nD τ) none) Set.univ (bodyAt2 t) _
  dsimp only
  unfold Φ2
  have hx : ¬ (firstC (grid2.coords t) = 1#1 ∧ k1_cond2 (grid2.coords t) = 1#1) := by
    rw [firstC_iff, lastC_iff]; omega
  iintro ⟨⟨%X, %hX, HS, Hback⟩, Howes, ⟨%d0, H0⟩, ⟨%d1, H1⟩, ⟨%d2, H2⟩, ⟨%d3, H3⟩⟩
  rw [before2_0, before2_1, before2_2]
  have hrows : merge bigC (keyBlock (V c main_arg0) t.val) (V c main_v2) (if firstC (grid2.coords t) = 1#1 then fresh bigC else X)
      = rows (V c main_arg0) (V c main_v2) (t.val + 1) := by
    show _ = merge bigC (keyBlock (V c main_arg0) t.val) (V c main_v2) (rows (V c main_arg0) (V c main_v2) t.val)
    congr 1
    by_cases h : firstC (grid2.coords t) = 1#1
    · rw [if_pos h, (firstC_iff t).mp h]; rfl
    · rw [if_neg h, hX fun e => h ((firstC_iff t).mpr e)]
  have hb := fun a1 w1 a2 w2 a3 w3 a4 w4 a5 w5 => side_point2 (F := F) c (grid2.coords t) a1 w1 a2 w2 a3 w3 a4 w4 a5 w5
    (keyBlock (V c main_arg0) t.val) (V c main_v2) (V c main_v1) ((dat2 V c).before 3 t d3) X Set.univ
  iapply (hb _ _ _ _ _ _ _ _ _ _ _ hx)
  isplitl [H0]; · iexact H0
  isplitl [H1]; · iexact H1
  isplitl [H2]; · iexact H2
  isplitl [H3]; · iexact H3
  isplitl [HS]; · iexact HS
  rw [hrows]
  iintro ⟨H0, H1, H2, H3, HS⟩
  isplitl [HS Hback]
  · iexists _; isplitr; swap
    · isplitl [HS]; · iexact HS
      iexact Hback
    ipureintro; exact fun _ => rfl
  isplitl [Howes]; · iexact Howes
  isplitl [H0]; · rw [show (dat2 V c).after 0 t = keyBlock (V c main_arg0) t.val from stg2_eq V c t]; iexact H0
  isplitl [H1]; · iexact H1
  isplitl [H2]; · iexact H2
  by_cases h2 : k1_cond2 (grid2.coords t) = 1#1
  · have hid : idle2 3 (grid2.coords t) = false := by show (!(k1_cond2 (grid2.coords t) == 1#1)) = false; rw [h2]; rfl
    rw [if_pos h2, hid]; dsimp only
    have h63 : t.val = 63 := (lastC_iff t).mp h2
    have e : merge bigC (keyBlock (V c main_arg0) t.val) (V c main_v2) X = rows (V c main_arg0) (V c main_v2) 64 := by
      rw [hX (by omega), h63]; rfl
    rw [e]; iexact H3
  · have hfl : (win2 3).flush t = false := by
      have := (flush2_3 t).not; have h63 := (lastC_iff t).not.mp h2
      have ht : t.val < 64 := lt_of_lt_of_eq t.isLt N_2
      exact Bool.eq_false_iff.mpr (this.mpr (by omega))
    have hid : idle2 3 (grid2.coords t) = true := by show (!(k1_cond2 (grid2.coords t) == 1#1)) = true; simpa using h2
    rw [if_neg h2, hid, hfl]; dsimp only
    iexists d3; iexact H3

/-! ## The region over the thread state -/

/-- The second call's proof data family. -/
def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 V c

/-- The result's array ends at the loss. -/
theorem arrAt2 (c : Dev nD) : (dat2 V c).arrAt 3 cfg2.N = out2 V c := by
  refine (dat2 V c).arrAt_eq_of_cover 3 (out2 V c) (fun t _ => ?_) fun i => ?_
  · show out2 V c = _
    funext j
    refine congrArg (out2 V c) (funext fun a => Fin.ext ?_)
    match a with
    | ⟨0, _⟩ => show (j 0).val = 0 * 1 + 1 * (j 0).val; omega
    | ⟨1, _⟩ => show (j 1).val = 0 * 1 + 1 * (j 1).val; omega
  · have hN : 63 < cfg2.N := lt_of_lt_of_eq (by decide : 63 < 64) N_2.symm
    refine ⟨⟨63, hN⟩, (flush2_3 _).mpr rfl, ?_⟩
    have h := ((cfg2.win 3).blk ⟨63, hN⟩).view.emb_mem_set (i : S1x1.Idx)
    have e : ((cfg2.win 3).blk ⟨63, hN⟩).view.emb (i : S1x1.Idx) = i := by
      funext a
      refine Fin.ext ?_
      match a with
      | ⟨0, _⟩ => show 0 * 1 + 1 * (i 0).val = (i 0).val; omega
      | ⟨1, _⟩ => show 0 * 1 + 1 * (i 1).val = (i 1).val; omega
    exact e ▸ h

variable (Vp : (c : Dev nD) → (b : Ref sig .tc) → Buf (Elt F) ((c : Thread nD τ).loc b))

set_option backward.isDefEq.respectTransparency.types false in
/-- The second distance call over the thread state: every unscoped buffer at `V`, left at `Vp`. -/
def reg2 (hVp_out : ∀ c, Vp c main_v4 = out2 V c) (hVp_ne : ∀ c (b : Ref sig .tc), b ≠ main_v4 → Vp c b = V c b) :
    Pipeline.RegionSeg (pcfgs (F := F)) adm (pdats2 V) (none : HIx 1) defs₀ 𝒱₀ (sc (F := F)).L (sc (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ _ _ 1 fun _ _ => rfl
  pre c := iprop(unscopedBufs c (V c) ∗ calm c)
  post c := iprop(unscopedBufs c (Vp c) ∗ calm c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V) launch2.win launch2.arr_whole c
      ((pdats2 V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold calm Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats2 V 1 c).Φ 0 = Φ2 V c 0 from rfl]
    unfold Φ2
    rw [show Pipeline.scopedRest (Ix := HIx 1) (Name := ℕ) (U := UU) (Lvl := ℕ) (Val := Elt F) (Pipeline.pin (pcfgs (F := F)) adm 1).spec c = _ from scopedRest2_eq c, scopedRest2_eq c]
    simp only [owns_whole_eq]
    iintro ⟨-, -, ⟨R1, R2, R3, R4, R5, R6, ⟨%f, H⟩⟩⟩
    iexists f
    isplitr; · ipureintro; exact fun h => absurd rfl h
    isplitl [H]; · iexists f; isplitr; · ipureintro; rfl
                   iexact H
    iintro %g Hg
    isplitl [R1]; · iexact R1
    isplitl [R2]; · iexact R2
    isplitl [R3]; · iexact R3
    isplitl [R4]; · iexact R4
    isplitl [R5]; · iexact R5
    isplitl [R6]; · iexact R6
    iexists g; iexact Hg
  hout c := by
    rw [Pipeline.ownSems0_none, show (pdats2 V 1 c).Φ (Fin.last _) = Φ2 V c cfg2.N from rfl]
    unfold Φ2
    simp only [owns_whole_eq]
    iintro ⟨%X, -, ⟨%f, -, H⟩, Hb⟩
    isplitr; · iempintro
    isplitr; · iempintro
    iapply Hb; iexact H
  hexit c := by
    have hjoin := Pipeline.unscopedBufs_of_arrays (p := 1) (pcfgs (F := F)) adm (Ix := HIx 1) (Name := ℕ) (U := UU) (Lvl := ℕ) launch2.win launch2.arr_whole c
      (pdats2 V) ((pdats2 V 1 c).share_full fun _ => rfl) (V c) (Vp c) ((pdats2 V 1 c).arrAt · cfg2.N)
      (fun w => by
        fin_cases w
        · exact ((pdats2 V 1 c).arrAt_in 0 rfl _).trans (hVp_ne c main_arg0 (by decide)).symm
        · exact ((pdats2 V 1 c).arrAt_in 1 rfl _).trans (hVp_ne c main_v2 (by decide)).symm
        · exact ((pdats2 V 1 c).arrAt_in 2 rfl _).trans (hVp_ne c main_v1 (by decide)).symm
        · exact (arrAt2 V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply calm_of_bound; iexact HO

end Cert.Proof.Side

end
-- ==== Proof.Main.lean ====
/-
  The whole program run: the gather call, the two transposes, the two distance calls, and the arithmetic after them.
  Every execution ends with the arguments unchanged, the semaphores at zero, and the result at `answer`.
-/
module

public import proofs.«01_k».proof.Proof.Launch
public import proofs.«01_k».proof.Proof.Region1
public import proofs.«01_k».proof.Proof.Region2

@[expose] public section

noncomputable section

namespace Cert.Proof.Side

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq seq after)
open Idealize.ShloMosaic.Pipeline (ucRefs unscopedBufs_held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers along the run -/

/-- A TensorCore's buffer among the device's. -/
abbrev dr (b : Ref sig .tc) : DevRef τ sig := Proc.devRef .tc b

/-- The transposes before the distance calls, and the operations after them. -/
def opsA : List (HloOp τ sig (Elt F)) :=
  [StableHlo.unary main_v0_0 main_v1 ((transpose S128x1024 [1, 0] · transposes_S1024x128_S128x1024_1_0) : (⟨S1024x128, .f32⟩ : BufTy).Contents (Elt F) → (⟨S128x1024, .f32⟩ : BufTy).Contents (Elt F)),
   StableHlo.unary main_v0_1 main_v2 ((transpose S128x1024 [1, 0] · transposes_S1024x128_S128x1024_1_0) : (⟨S1024x128, .f32⟩ : BufTy).Contents (Elt F) → (⟨S128x1024, .f32⟩ : BufTy).Contents (Elt F))]
/-- The arithmetic after the distance calls. -/
def opsB : List (HloOp τ sig (Elt F)) :=
  [StableHlo.reshape main_v3 main_v5 (rfl : (.f32 : EltTy) = .f32) shapeCasts_S1x1_S_,
   StableHlo.reshape main_v4 main_v6 (rfl : (.f32 : EltTy) = .f32) shapeCasts_S1x1_S_,
   StableHlo.binary main_v5 main_v6 main_v7 (addf : (⟨S_, .f32⟩ : BufTy).Contents (Elt F) → (⟨S_, .f32⟩ : BufTy).Contents (Elt F) → (⟨S_, .f32⟩ : BufTy).Contents (Elt F)),
   StableHlo.nullary main_cst (constant S_ .f32 0x46200000#32),
   StableHlo.binary main_v7 main_cst main_v8 (Host.divf : (⟨S_, .f32⟩ : BufTy).Contents (Elt F) → (⟨S_, .f32⟩ : BufTy).Contents (Elt F) → (⟨S_, .f32⟩ : BufTy).Contents (Elt F))]

/-- The program in its five parts. -/
theorem main_eq (d : Dev nD) : main (F := F) d = (K (F := F)).run d 0 >>= fun _ => seq opsA >>= fun _ =>
    SparseCore.liftProg (Prog.op (.customCall (Pipeline.entry 0) ()) Prog.ret) >>= fun _ =>
    SparseCore.liftProg (Prog.op (.customCall (Pipeline.entry 1) ()) Prog.ret) >>= fun _ => seq opsB >>= fun _ => pure ⟨⟩ := rfl

/-- At launch; after the gathers; after the transposes; after each distance call; at the end. -/
abbrev W0 (d : Dev nD) : Valuation τ sig (Elt F) := fun b => m (d, b)
/-- The memory after the gather call. -/
def W1 (d : Dev nD) : Valuation τ sig (Elt F) := Function.update (Function.update (W0 m d) (dr main_v0_0) (rows1 m d)) (dr main_v0_1) (rows2 m d)
/-- After the transposes. -/
def W2 (d : Dev nD) : Valuation τ sig (Elt F) := after opsA (W1 m d)
abbrev ofTc (W : Dev nD → Valuation τ sig (Elt F)) (c : Dev nD) (b : Ref sig .tc) : Buf (Elt F) ((c.tc : Thread nD τ).loc b) := W c (dr b)
/-- After the first distance call. -/
def W3 (d : Dev nD) : Valuation τ sig (Elt F) := Function.update (W2 m d) (dr main_v3) (out1 (ofTc (W2 m)) d)
/-- After the second distance call. -/
def W4 (d : Dev nD) : Valuation τ sig (Elt F) := Function.update (W3 m d) (dr main_v4) (out2 (ofTc (W3 m)) d)
/-- At the end. -/
def W5 (d : Dev nD) : Valuation τ sig (Elt F) := after opsB (W4 m d)

/-- The six arrays of the gather call among the unscoped buffers. -/
def six : Finset (DevRef τ sig) := {dr main_arg0, dr main_arg1, dr main_arg2, dr main_arg3, dr main_v0_0, dr main_v0_1}

/-- The six arrays of the gather call are among the program's. -/
theorem six_sub : six ⊆ ucRefs τ sig := by decide

/-- Holding the six is holding each of them. -/
theorem held_six (d : Dev nD) (W : Valuation τ sig (Elt F)) : (held (T d) six W : sProp 𝕄)
    = iprop((at_ d main_arg0 ↦{fullShare} W (dr main_arg0)) ∗ (at_ d main_arg1 ↦{fullShare} W (dr main_arg1)) ∗ (at_ d main_arg2 ↦{fullShare} W (dr main_arg2))
      ∗ (at_ d main_arg3 ↦{fullShare} W (dr main_arg3)) ∗ (at_ d main_v0_0 ↦{fullShare} W (dr main_v0_0)) ∗ (at_ d main_v0_1 ↦{fullShare} W (dr main_v0_1))) := by
  unfold held
  rw [bigSep_eq_bigSepL_of_eq [dr main_arg0, dr main_arg1, dr main_arg2, dr main_arg3, dr main_v0_0, dr main_v0_1] (by decide) (by decide)]
  rfl

/-- Different references are different buffers. -/
theorem dr_ne {a b : Ref sig .tc} (h : a ≠ b) : dr a ≠ dr b := fun e => h (Proc.devRef_injective _ e)

/-- The gather call changes its two results only. -/
theorem W1_at (d : Dev nD) (b : DevRef τ sig) (h0 : b ≠ dr main_v0_0) (h1 : b ≠ dr main_v0_1) : W1 m d b = m (d, b) := by
  unfold W1; rw [Function.update_of_ne h1, Function.update_of_ne h0]
/-- Its first result is the first table's rows. -/
theorem W1_v00 (d : Dev nD) : W1 m d (dr main_v0_0) = rows1 m d := by
  unfold W1; rw [Function.update_of_ne (dr_ne (by decide)), Function.update_self]
/-- Its second result is the second table's rows. -/
theorem W1_v01 (d : Dev nD) : W1 m d (dr main_v0_1) = rows2 m d := by
  unfold W1; rw [Function.update_self]

/-- The call's arrays before it and after it, as the unscoped buffers hold them. -/
theorem six_before (d : Dev nD) : (held (T d) six (W0 m d) : sProp 𝕄) = sixArrays m d (m (at_ d main_v0_0)) (m (at_ d main_v0_1)) := held_six d _
/-- The six arrays after the gather call. -/
theorem six_after (d : Dev nD) : (held (T d) six (W1 m d) : sProp 𝕄) = sixArrays m d (rows1 m d) (rows2 m d) := by
  have h (b : Ref sig .tc) (h0 : b ≠ main_v0_0) (h1 : b ≠ main_v0_1) := W1_at m d (dr b) (dr_ne h0) (dr_ne h1)
  rw [held_six, W1_v00, W1_v01, h main_arg0 (by decide) (by decide), h main_arg1 (by decide) (by decide), h main_arg2 (by decide) (by decide), h main_arg3 (by decide) (by decide)]
/-- The other buffers are as they were. -/
theorem six_rest (d : Dev nD) : (held (T d) (ucRefs τ sig \ six) (W0 m d) : sProp 𝕄) = held (T d) (ucRefs τ sig \ six) (W1 m d) :=
  held_congr _ fun b hb => by
    have hb := (Finset.mem_sdiff.mp hb).2
    exact (W1_at m d b (fun e => hb (e ▸ by decide)) (fun e => hb (e ▸ by decide))).symm

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's pipelines are dealt. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave HR := (own_pair_emb (embR : Emb (UP × Counters) 𝕄) _ _) $$ HR
  icases HR with ⟨HP, -⟩
  ihave HP := (Entails.of_eq (show (BI.own (((Emb.inl : Emb UP (UP × Counters)).trans (embR : Emb (UP × Counters) 𝕄))
      (initOf (Pipeline.cells (Pipeline.pin (pcfgs (F := F)) adm) cellOf_inj) (Pipeline.launchToks (Pipeline.pin (pcfgs (F := F)) adm) cellOf_inj))) : sProp 𝕄)
    = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · unfold G; rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main -/

/-- Nothing is owed once the call is over. -/
theorem Otc_one (d : Dev nD) : (K (F := F)).Otc d 1 = 0 := by
  unfold SparseCore.Cfg.Otc
  exact Finset.sum_eq_zero fun q _ => if_neg (by have := q.isLt; omega)

theorem fresh_nil (ops : List (HloOp τ sig (Elt F))) (h : ops.Forall fun op => op.fresh = ∅) : ∀ op ∈ ops, op.fresh = ∅ := List.forall_iff_forall_mem.mp h
theorem sub_uc (ops : List (HloOp τ sig (Elt F))) (h : ops.Forall fun op => op.bufs ⊆ StableHlo.tcRefs τ sig) : ∀ op ∈ ops, op.bufs ⊆ ucRefs τ sig :=
  fun op ho => Pipeline.sub_ucRefs op (List.forall_iff_forall_mem.mp h op ho)

theorem opsA_sub : ∀ op ∈ (opsA : List (HloOp τ sig (Elt F))), op.bufs ⊆ ucRefs τ sig :=
  sub_uc _ ⟨StableHlo.unary_bufs_sub .., StableHlo.unary_bufs_sub ..⟩
theorem opsB_sub : ∀ op ∈ (opsB : List (HloOp τ sig (Elt F))), op.bufs ⊆ ucRefs τ sig :=
  sub_uc _ ⟨StableHlo.reshape_bufs_sub .., StableHlo.reshape_bufs_sub .., StableHlo.binary_bufs_sub .., StableHlo.nullary_bufs_sub .., StableHlo.binary_bufs_sub ..⟩

abbrev R1 := reg1 (F := F) (ofTc (W2 m)) (ofTc (W3 m)) (fun c => Function.update_self _ _ _) (fun c b h => Function.update_of_ne (dr_ne h) _ _)
abbrev R2 := reg2 (F := F) (ofTc (W3 m)) (ofTc (W4 m)) (fun c => Function.update_self _ _ _) (fun c b h => Function.update_of_ne (dr_ne h) _ _)
theorem R1_pre (c : Dev nD) : (R1 m).pre c = iprop(unscopedBufs c (ofTc (W2 m) c) ∗ calm c) := rfl
theorem R1_post (c : Dev nD) : (R1 m).post c = iprop(unscopedBufs c (ofTc (W3 m) c) ∗ calm c) := rfl
theorem R2_pre (c : Dev nD) : (R2 m).pre c = iprop(unscopedBufs c (ofTc (W3 m) c) ∗ calm c) := rfl
theorem R2_post (c : Dev nD) : (R2 m).post c = iprop(unscopedBufs c (ofTc (W4 m) c) ∗ calm c) := rfl

/-- The buffers at the launch. -/
theorem launch_held (d : Dev nD) : (unscopedBufs d (fun b => m ((SparseCore.T d).loc b)) : sProp 𝕄) = held (SparseCore.T d) (ucRefs τ sig) (W0 m d) :=
  unscopedBufs_held d (W0 m d)

abbrev FIN (d : Dev nD) : sProp 𝕄 := held (T d) (ucRefs τ sig) (W5 m d)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱L (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, launch_held,
    held_sub_split (T d) six_sub (W0 m d), six_before, six_rest, bigSep_univ_two, bigSep_univ_two]
  simp only [wp_bind]
  iintro ⟨#Hctx, Hst, ⟨Hb, ⟨H6, Hrest⟩, Hts, -⟩, ⟨Hg0, Hg1⟩, Ht0, Ht1⟩
  ihave #Hl := (SparseCore.Cfg.ctx_levAts κ) $$ Hctx
  iapply ((K (F := F)).wp_run (D (F := F)) 𝒱L (EH := EH) (P := P m) κ d 0) $$ [-]
  isplitr; · iexact Hctx
  isplitl [Hst]; · iexact Hst
  isplitl [H6]; · rw [st0_eq]; iexact H6
  rw [dn0_eq]
  iintro ⟨Hst, H6⟩
  ihave H6 := (Entails.of_eq (six_after m d).symm) $$ H6
  ihave Hub := (Entails.of_eq (held_sub_split (T d) six_sub (W1 m d)).symm) $$ [H6 Hrest]
  · isplitl [H6] <;> iassumption
  iapply (wp_seq 𝒱L none Set.univ d (ucRefs τ sig) _ opsA opsA_sub (fresh_nil _ ⟨rfl, rfl⟩) (W1 m d)) $$ [Hb Hub]
  · isplitl [Hb] <;> iassumption
  iintro ⟨Hb, Hub⟩
  unfold SparseCore.Cfg.tcSt
  rw [show ((0 : Fin 1).val + 1) = 1 from rfl, Otc_one]
  icases Hst with ⟨⟨%W, %hW, HO⟩, Hst⟩
  ihave HO := (show (owes (SparseCore.T d) (0 : CellTallies nD τ sig (HIx 1)) W : sProp 𝕄) ⊢ calm (F := F) d from by
    unfold calm Pipeline.owesWithin
    iintro HO; iexists W; isplitr; swap; (· iexact HO); ipureintro; exact fun x hx => hW x hx) $$ HO
  ihave Hub := (Entails.of_eq (show (held (SparseCore.T d) (ucRefs τ sig) (after opsA (W1 m d)) : sProp 𝕄) = unscopedBufs d (ofTc (W2 m) d) from (unscopedBufs_held d (W2 m d)).symm)) $$ Hub
  simp only [StableHlo.seq, wp_pure]
  iapply ((K (F := F)).wp_liftProg (D (F := F)) 𝒱L (SparseCore.T d) Set.univ none _ _) $$ [-]
  iapply (Pipeline.RegionSeg.wp (pcfgs (F := F)) adm (pdats1 (ofTc (W2 m))) (none : HIx 1) cellOf_inj EP defs₀ 𝒱₀ (K (F := F)).L (K (F := F)).lev (R1 m) d none (fun u h => nomatch h) _ _) $$ [-]
  rw [R1_pre, R1_post]
  isplitr [Hb Hub HO Hg0 Ht0]
  swap
  · isplitl [Hb]; · iexact Hb
    isplitl [Hub HO]; · isplitl [Hub]; · iexact Hub
                        iexact HO
    isplitr; · iexact Hl
    isplitl [Hg0]; · iexact Hg0
    iexact Ht0
  iintro ⟨Hb, Hub, HO⟩
  rw [wp_ret]
  iapply ((K (F := F)).wp_liftProg (D (F := F)) 𝒱L (SparseCore.T d) Set.univ none _ _) $$ [-]
  iapply (Pipeline.RegionSeg.wp (pcfgs (F := F)) adm (pdats2 (ofTc (W3 m))) (none : HIx 1) cellOf_inj EP defs₀ 𝒱₀ (K (F := F)).L (K (F := F)).lev (R2 m) d none (fun u h => nomatch h) _ _) $$ [-]
  rw [R2_pre, R2_post]
  isplitr [Hb Hub HO Hg1 Ht1]
  swap
  · isplitl [Hb]; · iexact Hb
    isplitl [Hub HO]; · isplitl [Hub]; · iexact Hub
                        iexact HO
    isplitr; · iexact Hl
    isplitl [Hg1]; · iexact Hg1
    iexact Ht1
  iintro ⟨Hb, Hub, HO⟩
  rw [wp_ret]
  ihave Hub := (Entails.of_eq (show (unscopedBufs d (ofTc (W4 m) d) : sProp 𝕄) = held (SparseCore.T d) (ucRefs τ sig) (W4 m d) from unscopedBufs_held d (W4 m d))) $$ Hub
  imodintro
  iapply (wp_seq 𝒱L none Set.univ d (ucRefs τ sig) _ opsB opsB_sub (fresh_nil _ ⟨rfl, rfl, rfl, rfl, rfl⟩) (W4 m d)) $$ [Hb Hub]
  · isplitl [Hb] <;> iassumption
  iintro ⟨Hb, Hub⟩
  simp only [StableHlo.seq, wp_pure]
  imodintro
  imodintro
  isplitl [Hst HO]
  · isplitl [HO]
    · unfold calm Pipeline.owesWithin
      icases HO with ⟨%W', %hW', HO⟩
      iexists W'; isplitr; swap; (· iexact HO)
      ipureintro; exact fun x hx => hW' hx
    iexact Hst
  isplitl [Hub]; · iexact Hub
  isplitl [Hb] <;> iassumption

/-! ## The run -/

/-- What the last state holds: on each device, each unscoped buffer at its value in `W5`. -/
def fq (d : Dev nD) (s' : Phys nD τ sig (Elt F)) : Prop := ∀ b ∈ ucRefs τ sig, s'.mem.mem (d, b) = W5 m d b

/-- What the end holds gives the final memory. -/
theorem hfin (d : Dev nD) (s' : Phys nD τ sig (Elt F)) : iprop(FIN m d ∗ SI s') ⊢ (⌜fq m d s'⌝ : sProp 𝕄) := by
  iintro ⟨H, HSI⟩
  ihave ⟨%h, -⟩ := (pointsTo_read_all (ucRefs τ sig) (fun b => (d, b)) (W5 m d) s') $$ [H HSI]
  · isplitl [H]; · iapply (show FIN m d ⊢ bigSep (ucRefs τ sig) (fun i => ((d, i) ↦{fullShare} W5 m d i : sProp 𝕄)) from .rfl) $$ H
    iexact HSI
  ipureintro; exact h

/-- Every execution ends with each buffer at its value in `W5`, and every counter at zero. -/
theorem run_uc [∀ e, Nonempty (Elt F e)] (hpre : PreOK m) :
    θ_run (Cert.KernelIdeal.defs (F := F)) (Cert.KernelIdeal.threads (F := F)) ⟨m, fun _ => 0, ρ⟩
      (fun r => (∀ d : Dev nD, ∀ b ∈ ucRefs τ sig, r.2.mem (d, b) = W5 m d b) ∧ r.2.sem = fun _ => 0) :=
  SparseCore.Cfg.θ_run_sc_quiescent (K := K (F := F)) (D := D (F := F)) (𝒱 := 𝒱L) (EH := EH) (P := P m) (A := ∅) launchFacts v₀
    (fun q hq => match q with | 0 => nomatch hq)
    (fun q _ => match q with | 0 => tileObl m hpre)
    (fun q _ => match q with | 0 => SparseCore.Cfg.VecSplit.of_plain (vecSplit m))
    m ρ main G (FIN m) (u₀ (F := F)) (sep_elim_left.trans (hu₀ m)) (hmain m ρ) (fq m) (hfin m) _ (fun _ h hz => ⟨h, hz⟩)

/-! ## What the last buffers hold -/

/-- The arithmetic after the calls writes its own five buffers only. -/
theorem opsB_arg (d : Dev nD) (b : Ref sig .tc) (h : b ∉ [main_v5, main_v6, main_v7, main_cst, main_v8]) : W5 m d (dr b) = W4 m d (dr b) :=
  StableHlo.after_of_writes_sub opsB (W4 m d) (StableHlo.forall_writes_sub_of_map rfl) h
/-- The transposes write their own two buffers only. -/
theorem opsA_arg (d : Dev nD) (b : Ref sig .tc) (h : b ∉ [main_v1, main_v2]) : W2 m d (dr b) = W1 m d (dr b) :=
  StableHlo.after_of_writes_sub opsA (W1 m d) (StableHlo.forall_writes_sub_of_map rfl) h
/-- The first distance call writes its result only. -/
theorem W3_ne (d : Dev nD) (b : Ref sig .tc) (h : b ≠ main_v3) : W3 m d (dr b) = W2 m d (dr b) := by
  unfold W3; rw [Function.update_of_ne (dr_ne h)]
/-- The second distance call writes its result only. -/
theorem W4_ne (d : Dev nD) (b : Ref sig .tc) (h : b ≠ main_v4) : W4 m d (dr b) = W3 m d (dr b) := by
  unfold W4; rw [Function.update_of_ne (dr_ne h)]

/-- No operation writes an argument. -/
theorem W2_arg (d : Dev nD) (b : Ref sig .tc) (h : b ∉ [main_v0_0, main_v0_1, main_v1, main_v2]) : W2 m d (dr b) = m (d, dr b) := by
  simp only [List.mem_cons, List.not_mem_nil, or_false, not_or] at h
  rw [opsA_arg m d b (by simp [h]), W1_at m d _ (dr_ne h.1) (dr_ne h.2.1)]

/-- What none of the steps writes is at the end as it was. -/
theorem W5_arg (d : Dev nD) (b : Ref sig .tc)
    (h : b ∉ [main_v0_0, main_v0_1, main_v1, main_v2, main_v3, main_v4, main_v5, main_v6, main_v7, main_cst, main_v8]) :
    W5 m d (dr b) = m (d, dr b) := by
  simp only [List.mem_cons, List.not_mem_nil, or_false, not_or] at h
  rw [opsB_arg m d b (by simp [h]), W4_ne m d b (by simp [h]), W3_ne m d b (by simp [h]), W2_arg m d b (by simp [h])]

/-- The first queries, a query a column. -/
theorem W2_v1 (d : Dev nD) : W2 m d (dr main_v1) = transpose S128x1024 [1, 0] (rows1 m d) transposes_S1024x128_S128x1024_1_0 := by
  unfold W2 opsA
  after_results_simp
  rw [W1_v00]
/-- The second queries, a query a column. -/
theorem W2_v2 (d : Dev nD) : W2 m d (dr main_v2) = transpose S128x1024 [1, 0] (rows2 m d) transposes_S1024x128_S128x1024_1_0 := by
  unfold W2 opsA
  after_results_simp
  rw [W1_v01]

/-- The result: the two sides' losses added and divided. -/
def answer (d : Dev nD) : (⟨S_, .f32⟩ : BufTy).Contents (Elt F) :=
  Host.divf (addf (shapeCast S_ (out1 (ofTc (W2 m)) d) shapeCasts_S1x1_S_) (shapeCast S_ (out2 (ofTc (W2 m)) d) shapeCasts_S1x1_S_))
    (constant S_ .f32 0x46200000#32)

/-- The second distance call reads nothing that the first writes. -/
theorem out2_W3 (d : Dev nD) : out2 (ofTc (W3 m)) d = out2 (ofTc (W2 m)) d := by
  have h (b : Ref sig .tc) (hb : b ≠ main_v3) : ofTc (W3 m) d b = ofTc (W2 m) d b := W3_ne m d b hb
  unfold out2; rw [h main_arg0 (by decide), h main_v2 (by decide), h main_v1 (by decide)]

/-- The result at the end. -/
theorem W5_v8 (d : Dev nD) : W5 m d (dr main_v8) = answer m d := by
  have h3 : W4 m d (Proc.tc.devRef main_v3) = out1 (ofTc (W2 m)) d := by
    rw [show W4 m d (Proc.tc.devRef main_v3) = W3 m d (dr main_v3) from W4_ne m d _ (by decide)]; unfold W3; rw [Function.update_self]
  have h4 : W4 m d (Proc.tc.devRef main_v4) = out2 (ofTc (W2 m)) d := by
    unfold W4; rw [← out2_W3]; exact Function.update_self _ _ _
  unfold W5 opsB answer
  after_results_simp
  rw [h3, h4]
  rfl

/-- Every execution ends with the result at `answer`, the arguments as they were and the semaphores at zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, r.2.mem (at_ d main_v8) = answer m d ∧ r.2.mem (at_ d main_arg0) = m (at_ d main_arg0)
        ∧ r.2.mem (at_ d main_arg1) = m (at_ d main_arg1) ∧ r.2.mem (at_ d main_arg2) = m (at_ d main_arg2)
        ∧ r.2.mem (at_ d main_arg3) = m (at_ d main_arg3)) ∧ r.2.sem = fun _ => 0) :=
  (θ_run (Cert.KernelIdeal.defs (F := F)) _ _).mono (fun r h => ⟨fun d =>
    ⟨(h.1 d (dr main_v8) (by decide)).trans (W5_v8 m d), (h.1 d (dr main_arg0) (by decide)).trans (W5_arg m d main_arg0 (by decide)),
      (h.1 d (dr main_arg1) (by decide)).trans (W5_arg m d main_arg1 (by decide)), (h.1 d (dr main_arg2) (by decide)).trans (W5_arg m d main_arg2 (by decide)),
      (h.1 d (dr main_arg3) (by decide)).trans (W5_arg m d main_arg3 (by decide))⟩, h.2⟩) (run_uc m ρ hpre)

end Cert.Proof.Side

end
-- ==== Proof.Frames.lean ====
/-
  The claims that every execution ends, with the arguments unchanged and the semaphores at zero, of the kernel as written
  and of the kernel with its constant named; and the claim that naming the constant is all that sets them apart.
-/
module

public import proofs.«01_k».proof.Defs
public import proofs.«01_k».proof.Proof.Main
public import proofs.«01_k».proof.Proof.Gen.Kernel
public import Idealize.ShloMosaic.PureOps.BitExact
public import Idealize.ShloMosaic.PureOps.IdealRules
public import Idealize.ShloMosaic.Lib.ReduceAll
public import Idealize.ShloMosaic.Lib.WordCmp
public import proofs.«01_k».proof.Proof.Gen.ReferenceIdeal.Run

@[expose] public section

noncomputable section

namespace Cert.Proof.Side

open Idealize.ShloMosaic Idealize.SL.Sem

/-- On machine words a named constant is the word it is written with. -/
instance wordNamed : Named Bits where
  named _ _ {φ} w := Scalar.ofBits φ w

set_option maxRecDepth 65536 in
theorem body1_eq : @Cert.Kernel.cc1__side_kernel Bits _ Cert.Kernel.Gen.facts = @Cert.KernelIdeal.cc1__side_kernel Bits _ _ Cert.KernelIdeal.Gen.facts := rfl
set_option maxRecDepth 65536 in
theorem body2_eq : @Cert.Kernel.cc2__side_kernel Bits _ Cert.Kernel.Gen.facts = @Cert.KernelIdeal.cc2__side_kernel Bits _ _ Cert.KernelIdeal.Gen.facts := rfl
/-- The two kernels' body tables are one table. -/
theorem defs₀_eq : @Cert.Kernel.defs₀ Bits _ Cert.Kernel.Gen.facts = @Cert.KernelIdeal.defs₀ Bits _ _ Cert.KernelIdeal.Gen.facts := by
  funext p ℓ a
  rcases p with _ | _ | ⟨c, s⟩
  · match ℓ, a with
    | 0, a => rfl
    | 1, (t, s) => unfold Cert.Kernel.defs₀ Cert.KernelIdeal.defs₀; exact congrFun (congrFun (congrFun (congrFun (congrFun (congrFun (congrFun (congrFun (congrFun (congrFun (congrFun body1_eq _) _) _) _) _) _) _) _) _) _) _
    | 2, (t, s) => unfold Cert.Kernel.defs₀ Cert.KernelIdeal.defs₀; exact congrFun (congrFun (congrFun (congrFun (congrFun (congrFun (congrFun (congrFun (congrFun (congrFun (congrFun body2_eq _) _) _) _) _) _) _) _) _) _) _
  · match ℓ, a with
    | 0, a => rfl
    | 1, (t, s) => rfl
    | 2, (t, s) => rfl
  · match ℓ, a with
    | 0, a => rfl
    | 1, (t, s) => rfl
    | 2, (t, s) => rfl

/-- The two kernels have the same procedures at machine words: the named constant is the same word. -/
theorem defs_eq : @Cert.Kernel.defs Bits _ Cert.Kernel.Gen.facts = @Cert.KernelIdeal.defs Bits _ _ Cert.KernelIdeal.Gen.facts := by
  unfold Cert.Kernel.defs Cert.KernelIdeal.defs
  rw [defs₀_eq]
  rfl

/-- And the same threads. -/
theorem threads_eq : Cert.Kernel.threads (F := Bits) = Cert.KernelIdeal.threads (F := Bits) := rfl

/-! ## The preconditions' side conditions, and what the preconditions say -/

/-- The shape facts that the range precondition states. -/
theorem range_facts : Cert.Pre_in_range.Facts := ⟨by decide, by decide, by decide⟩
/-- A list is in range when the test of every index gives one. -/
theorem below_of_test (J : IVec Cert.Pre_in_range.S1024 32) (Z N : IVec Cert.Pre_in_range.S1024 32) (hZ : ∀ j, Z j = 0#32) (hN : ∀ j, N j = 16384#32) (init : IVec Cert.Pre_in_range.S_ 1)
    (h1 : Cert.Pre_in_range.S1024.ReducesTo [0] Cert.Pre_in_range.S_) (h2 : 0 < Cert.Pre_in_range.S_.numel) (i : Cert.Pre_in_range.S_.Idx)
    (e : Host.reduce IntOp.andi (andi (cmpi .sge J Z) (cmpi .slt J N)) init h1 h2 i = 1#1) (j : Cert.Pre_in_range.S1024.Idx) : (J j).toNat < 16384 := by
  have t := Host.reduce_andi_eq_one _ _ _ _ i e j (funext fun k => k.elim0)
  rw [show andi (cmpi .sge J Z) (cmpi .slt J N) j = IntOp.andi (IntOp.cmpi .sge (J j) (Z j)) (IntOp.cmpi .slt (J j) (N j)) from rfl, hZ, hN,
    show (16384#32) = BitVec.ofNat 32 16384 from rfl, WordCmp.andi_sge_zero_slt_ofNat (by decide)] at t
  by_contra hn
  rw [decide_eq_false hn] at t
  exact absurd t (by decide)

/-- The range precondition says that every row number is below 16384. -/
theorem ok_of_range {F : FTy → Type} [FloatOps F] (X Y : FVec F Cert.Pre_in_range.S16384x128 .f32) (I J : IVec Cert.Pre_in_range.S1024 32)
    (h : @Cert.Pre_in_range.fn range_facts F _ X Y I J = fun _ => 1#1) : (∀ j, (I j).toNat < 16384) ∧ ∀ j, (J j).toNat < 16384 := by
  have e := congrFun h (fun k => nomatch k)
  unfold Cert.Pre_in_range.fn at e
  obtain ⟨e1, e2⟩ := IntOp.andi_eq_one.mp e
  exact ⟨fun j => below_of_test I _ _ (fun _ => rfl) (fun _ => rfl) _ _ _ _ e1 j, fun j => below_of_test J _ _ (fun _ => rfl) (fun _ => rfl) _ _ _ _ e2 j⟩

/-! ## The claims -/

/-- The kernel as written, at machine words. -/
theorem frame_p : Cert.quiescent_Kernel (hKernel := Cert.Kernel.Gen.facts) (hPre_in_range := range_facts) := fun m ρ hpre => by
  have h := run_main (F := Bits) m ρ (fun d => ok_of_range _ _ _ _ (hpre d))
  rw [← defs_eq, ← threads_eq] at h
  exact (θ_run (@Cert.Kernel.defs Bits _ Cert.Kernel.Gen.facts) _ _).mono (fun _ h => ⟨fun c => (h.1 c).2, h.2⟩) h

/-- The kernel with its constant named, at the extended reals. -/
theorem frame_pi : Cert.quiescent_KernelIdeal (hKernelIdeal := Cert.KernelIdeal.Gen.facts) (hPre_in_range := range_facts) := fun m ρ hpre =>
  (θ_run (Cert.KernelIdeal.defs (F := Ideal)) _ _).mono (fun _ h => ⟨fun c => (h.1 c).2, h.2⟩)
    (run_main (F := Ideal) m ρ fun d => ok_of_range _ _ _ _ (hpre d))

/-- The reference, whatever the arguments. -/
theorem frame_ri : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The one constant's name stands for the top of the extended reals. -/
theorem preserves : Cert.preserves_Kernel_KernelIdeal :=
  IdealRules.named_const.statement Cert.KernelIdeal.κ "big" .f32 0x7F61B1E6#32 ⊤ rfl

end Cert.Proof.Side

end
-- ==== Proof.Finite.lean ====
/-
  The precondition that the tables are finite: what it says, and the frame claims under it.
-/
module

public import proofs.«01_k».proof.Proof.Frames

@[expose] public section

noncomputable section

namespace Cert.Proof.Side

open Idealize.ShloMosaic Idealize.SL.Sem

/-- The shape facts that the precondition states. -/
theorem finite_facts : Cert.Pre_finite_in_range.Facts := ⟨by decide, by decide, by decide, by decide, by decide⟩

/-- The test that a table's entries are below infinity in absolute value, all of them, and what it says at the extended reals. -/
theorem finite_of_test (X : FVec Ideal Cert.Pre_finite_in_range.S16384x128 .f32) (B : FVec Ideal Cert.Pre_finite_in_range.S16384x128 .f32)
    (hB : ∀ x, B x = FloatOps.ofBits .f32 0x7F800000#32) (init : IVec Cert.Pre_finite_in_range.S_ 1)
    (h1 : Cert.Pre_finite_in_range.S16384x128.ReducesTo [0, 1] Cert.Pre_finite_in_range.S_) (h2 : 0 < Cert.Pre_finite_in_range.S_.numel) (i : Cert.Pre_finite_in_range.S_.Idx)
    (e : Host.reduce IntOp.andi (cmpf .olt (Host.absf X) B) init h1 h2 i = 1#1) (x : Cert.Pre_finite_in_range.S16384x128.Idx) :
    (X x : EReal) ≠ ⊥ ∧ (X x : EReal) ≠ ⊤ := by
  have t := Host.reduce_andi_eq_one _ _ _ _ i e x (funext fun k => nomatch k)
  rw [show cmpf .olt (Host.absf X) B x = FloatOps.cmpf .olt (Host.absf X x) (B x) from rfl, hB] at t
  rw [show FloatOps.ofBits (F := Ideal) .f32 0x7F800000#32 = (⊤ : EReal) from by simp [FloatOps.ofBits, Ideal.ofBits, Ideal.ieee]] at t
  have t : BitVec.ofBool (decide (max (X x : EReal) (-(X x : EReal)) < ⊤)) = 1#1 := t
  have t : max (X x : EReal) (-(X x : EReal)) < ⊤ := by
    by_contra hn
    rw [decide_eq_false hn] at t
    exact absurd t (by decide)
  obtain ⟨t1, t2⟩ := max_lt_iff.mp t
  exact ⟨fun h => by rw [h, EReal.neg_bot] at t2; exact lt_irrefl _ t2, t1.ne⟩

/-- The precondition says that the row numbers are in range and that no entry of a table is infinite. -/
theorem ok_of_finite (X Y : FVec Ideal Cert.Pre_in_range.S16384x128 .f32) (I J : IVec Cert.Pre_in_range.S1024 32)
    (h : @Cert.Pre_finite_in_range.fn finite_facts Ideal _ X Y I J = fun _ => 1#1) :
    ((∀ j, (I j).toNat < 16384) ∧ ∀ j, (J j).toNat < 16384) ∧ (∀ x, (X x : EReal) ≠ ⊥ ∧ (X x : EReal) ≠ ⊤) ∧ ∀ x, (Y x : EReal) ≠ ⊥ ∧ (Y x : EReal) ≠ ⊤ := by
  have e := congrFun h (fun k => nomatch k)
  unfold Cert.Pre_finite_in_range.fn Cert.Pre_finite_in_range.fn_part1 at e
  obtain ⟨e, e4⟩ := IntOp.andi_eq_one.mp e
  obtain ⟨e, e3⟩ := IntOp.andi_eq_one.mp e
  obtain ⟨e1, e2⟩ := IntOp.andi_eq_one.mp e
  exact ⟨⟨fun j => below_of_test I _ _ (fun _ => rfl) (fun _ => rfl) _ _ _ _ e1 j, fun j => below_of_test J _ _ (fun _ => rfl) (fun _ => rfl) _ _ _ _ e2 j⟩,
    fun x => finite_of_test X _ (fun _ => rfl) _ _ _ _ e3 x, fun x => finite_of_test Y _ (fun _ => rfl) _ _ _ _ e4 x⟩

/-- The frame of the kernel with its constant named, under the stronger precondition. -/
theorem frame_pi_finite : Cert.quiescent_KernelIdeal_pre_finite_in_range (hKernelIdeal := Cert.KernelIdeal.Gen.facts) (hPre_finite_in_range := finite_facts) :=
  fun m ρ hpre => (θ_run (Cert.KernelIdeal.defs (F := Ideal)) _ _).mono (fun _ h => ⟨fun c => (h.1 c).2, h.2⟩)
    (run_main (F := Ideal) m ρ fun d => (ok_of_finite _ _ _ _ (hpre d)).1)

/-- The frame of the reference, under the stronger precondition. -/
theorem frame_ri_finite : Cert.quiescent_ReferenceIdeal_pre_finite_in_range (hReferenceIdeal := Cert.ReferenceIdeal.Gen.facts) (hPre_finite_in_range := finite_facts) :=
  fun m ρ _ => frame_ri m ρ trivial

end Cert.Proof.Side

end
-- ==== Proof.Count.lean ====
/-
  The k-th smallest of finitely many extended reals, known by counting: a value `v` is the k-th smallest
  when, for every `t < ⊤`, `v ≤ t` exactly if more than `k` of them are `≤ t`.  Nothing here is about
  a program.
-/
module

public import Mathlib.Data.EReal.Basic
public import Idealize.ShloMosaic.Lib.Pointwise

@[expose] public section

noncomputable section

namespace Cert.Proof.Side

/-- How many of the values are at most `t`. -/
def count {n : ℕ} (f : Fin n → EReal) (t : EReal) : ℕ := ∑ i, if f i ≤ t then 1 else 0

/-- `v` is the value numbered `k`, from zero, in the order the counts `c` describe; `⊤` if there is none. -/
def IsNth (c : EReal → ℕ) (k : ℕ) (v : EReal) : Prop := ∀ t < ⊤, v ≤ t ↔ k < c t

/-- The counts determine the value. -/
theorem IsNth.unique {c : EReal → ℕ} {k : ℕ} {v w : EReal} (hv : IsNth c k v) (hw : IsNth c k w) : v = w := by
  have le : ∀ {a b : EReal}, IsNth c k a → IsNth c k b → a ≤ b := by
    intro a b ha hb
    by_cases h : b = ⊤
    · exact h ▸ le_top
    · have h' := lt_top_iff_ne_top.2 h
      exact (ha b h').2 ((hb b h').1 le_rfl)
  exact le_antisymm (le hv hw) (le hw hv)

/-- A count is positive when some value is at most `t`. -/
theorem count_pos {n : ℕ} (f : Fin n → EReal) (t : EReal) : 0 < count f t ↔ ∃ i, f i ≤ t := by
  unfold count
  rw [Nat.pos_iff_ne_zero, Ne, Finset.sum_eq_zero_iff]
  simp

/-- Replacing one smallest value by `⊤` lowers every count by one, as far as it can be lowered. -/
theorem count_update {n : ℕ} (f : Fin n → EReal) (i : Fin n) (hi : ∀ j, f i ≤ f j) (t : EReal) (ht : t < ⊤) :
    count (fun j => if j = i then ⊤ else f j) t = count f t - 1 := by
  by_cases h : f i ≤ t
  · have e : count f t = (if f i ≤ t then 1 else 0) + ∑ j ∈ Finset.univ.erase i, if f j ≤ t then 1 else 0 :=
      (Finset.add_sum_erase _ _ (Finset.mem_univ i)).symm
    have e' : count (fun j => if j = i then ⊤ else f j) t
        = (if (if i = i then ⊤ else f i) ≤ t then 1 else 0)
          + ∑ j ∈ Finset.univ.erase i, if (if j = i then ⊤ else f j) ≤ t then 1 else 0 :=
      (Finset.add_sum_erase _ _ (Finset.mem_univ i)).symm
    have e'' : (∑ j ∈ Finset.univ.erase i, if (if j = i then ⊤ else f j) ≤ t then 1 else 0)
        = ∑ j ∈ Finset.univ.erase i, if f j ≤ t then 1 else 0 :=
      Finset.sum_congr rfl fun j hj => by rw [if_neg (Finset.ne_of_mem_erase hj)]
    rw [e, e', e'', if_pos rfl, if_neg (not_le.2 ht), if_pos h]
    omega
  · have z : count f t = 0 := Finset.sum_eq_zero fun j _ => if_neg fun hj => h ((hi j).trans hj)
    rw [z]
    refine Finset.sum_eq_zero fun j _ => if_neg ?_
    show ¬ (if j = i then ⊤ else f j) ≤ t
    by_cases hj : j = i
    · rw [if_pos hj]; exact not_le.2 ht
    · rw [if_neg hj]; exact fun hj' => h ((hi j).trans hj')

/-- The counts of a column made of one above another. -/
theorem count_two {N a b : ℕ} (hN : a + b = N) (f : Fin N → EReal) (t : EReal) :
    count f t = count (fun i : Fin a => f ⟨i.val, by omega⟩) t + count (fun i : Fin b => f ⟨a + i.val, by omega⟩) t := by
  unfold count
  exact Idealize.ShloMosaic.Fin.sum_univ_two_halves a b hN _

/-- The counts of sixteen values of which the first ten are the ten smallest of something and the rest are `⊤`. -/
theorem count_ten (f : Fin 16 → EReal) (c : EReal → ℕ) (lo : ∀ i : Fin 16, i.val < 10 → IsNth c i.val (f i))
    (hi : ∀ i : Fin 16, ¬ i.val < 10 → f i = ⊤) (t : EReal) (ht : t < ⊤) : count f t = min 10 (c t) := by
  have e : count f t = ∑ i : Fin 16, if i.val < 10 ∧ i.val < c t then 1 else 0 := by
    refine Finset.sum_congr rfl fun i _ => ?_
    by_cases h : i.val < 10
    · simp only [lo i h t ht, h, true_and]
    · rw [hi i h, if_neg (not_le.2 ht), if_neg (fun h' => h h'.1)]
  rw [e]
  generalize c t = n
  by_cases hn : n < 10
  · interval_cases n <;> decide
  · have : ∀ i : Fin 16, (i.val < 10 ∧ i.val < n) ↔ i.val < 10 := fun i => ⟨fun h => h.1, fun h => ⟨h, by omega⟩⟩
    simp only [this]
    rw [min_eq_left (by omega)]
    decide

/-- Values listed in increasing order by a rearrangement: the one listed at `k` is the `k`-th smallest. -/
theorem isNth_sorted {n : ℕ} (f : Fin n → EReal) (p : Fin n → Fin n) (hp : Function.Bijective p)
    (mono : ∀ i j : Fin n, i < j → f (p i) ≤ f (p j)) (k : Fin n) : IsNth (count f) k.val (f (p k)) := by
  intro t _
  have mono' : ∀ i j : Fin n, i ≤ j → f (p i) ≤ f (p j) := fun i j h => by
    rcases h.lt_or_eq with h | h
    · exact mono i j h
    · rw [h]
  have e : count f t = (Finset.univ.filter fun i => f (p i) ≤ t).card := by
    rw [Finset.card_filter]
    exact (Function.Bijective.sum_comp hp fun i => if f i ≤ t then 1 else 0).symm
  rw [e]
  constructor
  · intro h
    have : Finset.Iic k ⊆ Finset.univ.filter fun i => f (p i) ≤ t := fun i hi =>
      Finset.mem_filter.2 ⟨Finset.mem_univ i, (mono' i k (Finset.mem_Iic.1 hi)).trans h⟩
    have := Finset.card_le_card this
    rw [Fin.card_Iic] at this
    omega
  · intro h
    by_contra hk
    have : (Finset.univ.filter fun i => f (p i) ≤ t) ⊆ Finset.Iio k := fun i hi => by
      rw [Finset.mem_Iio]
      by_contra hik
      exact hk ((mono' k i (not_lt.1 hik)).trans (Finset.mem_filter.1 hi).2)
    have := Finset.card_le_card this
    rw [Fin.card_Iio] at this
    omega

end Cert.Proof.Side

end
-- ==== Proof.Ten.lean ====
/-
  What the running sixteen rows hold after each block, over the extended reals: row `k < 10` of a column is
  the k-th smallest distance met so far, the other six rows are `⊤`.
-/
module

public import proofs.«01_k».proof.Proof.Spec
public import proofs.«01_k».proof.Proof.Count

@[expose] public section

noncomputable section

namespace Cert.Proof.Side

open Idealize.ShloMosaic Cert.KernelIdeal

/-- The word of an element's row number. -/
theorem rowNo_apply (i : Fin 272) (q : Fin 1024) : rowNo (ix2 i q) = BitVec.ofNat 32 i.val := by
  show BitVec.ofNat 32 (0 * 272 + i.val) = _
  rw [Nat.zero_mul, Nat.zero_add]

/-- A column's smallest value is the fold of its rows. -/
theorem rowMin_apply (x : FVec Ideal S272x1024 .f32) (q : Fin 1024) :
    rowMin x (ix2 0 q) = Finset.fold min (⊤ : EReal) (fun i : Fin 272 => x (ix2 i q)) Finset.univ := by
  have top : Ideal.ofBits .f32 0x7F800000#32 = ⊤ := by simp [Ideal.ofBits, Ideal.ieee]
  pointwise [rowMin]
  exact congrArg (fun b => Finset.fold min b (fun i : Fin 272 => x (ix2 i q)) Finset.univ) top

/-- Some row holds the smallest value of the column. -/
theorem rowMin_mem (x : FVec Ideal S272x1024 .f32) (q : Fin 1024) : ∃ i : Fin 272, x (ix2 i q) ≤ rowMin x (ix2 0 q) := by
  have h := (Finset.fold_min_le (s := Finset.univ) (f := fun i : Fin 272 => x (ix2 i q)) (b := (⊤ : EReal))
    (rowMin x (ix2 0 q))).1 (rowMin_apply x q).ge
  rcases h with h | ⟨i, _, h⟩
  · exact ⟨0, le_top.trans h⟩
  · exact ⟨i, h⟩

/-- A column's minimum is at most each of its entries. -/
theorem rowMin_le (x : FVec Ideal S272x1024 .f32) (i : Fin 272) (q : Fin 1024) : rowMin x (ix2 0 q) ≤ x (ix2 i q) := by
  rw [rowMin_apply]
  exact (Finset.fold_min_le _).2 (Or.inr ⟨i, Finset.mem_univ i, le_rfl⟩)

/-- The smallest value is the one numbered zero. -/
theorem rowMin_nth (x : FVec Ideal S272x1024 .f32) (q : Fin 1024) :
    IsNth (count fun i : Fin 272 => x (ix2 i q)) 0 (rowMin x (ix2 0 q)) := by
  intro t _
  rw [count_pos]
  constructor
  · intro h
    obtain ⟨i, hi⟩ := rowMin_mem x q
    exact ⟨i, hi.trans h⟩
  · rintro ⟨i, hi⟩
    exact (rowMin_le x i q).trans hi

/-- A signed smallest word is one of the words met or the start, and none of them is below it. -/
theorem fold_minsi {ι : Type} [DecidableEq ι] (g : ι → BitVec 32) (z : BitVec 32) (s : Finset ι) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), .inl Finset.fold_empty⟩
  | insert a s ha ih =>
    rw [Finset.fold_insert ha]
    generalize s.fold IntOp.minsi z g = r at ih ⊢
    unfold IntOp.minsi
    rw [BitVec.slt_eq_decide]
    by_cases h : (g a).toInt < r.toInt
    · rw [decide_eq_true h, if_pos rfl]
      refine ⟨fun i hi => ?_, .inr ⟨a, Finset.mem_insert_self a s, rfl⟩⟩
      rcases Finset.mem_insert.1 hi with rfl | hi
      · exact le_rfl
      · exact h.le.trans (ih.1 i hi)
    · rw [decide_eq_false h, if_neg Bool.false_ne_true]
      refine ⟨fun i hi => ?_, ih.2.imp id fun ⟨i, hi, e⟩ => ⟨i, Finset.mem_insert_of_mem hi, e⟩⟩
      rcases Finset.mem_insert.1 hi with rfl | hi
      · exact not_lt.1 h
      · exact ih.1 i hi

/-- A row's number is the same read signed. -/
theorem toInt_row (i : Fin 272) : (BitVec.ofNat 32 i.val).toInt = i.val := by
  have := i.isLt
  have e : (BitVec.ofNat 32 i.val).toNat = i.val := by rw [BitVec.toNat_ofNat]; omega
  rw [BitVec.toInt_eq_toNat_of_lt (by omega), e]

/-- The row the column's mask names holds a smallest value. -/
theorem firstMin_spec (x : FVec Ideal S272x1024 .f32) (q : Fin 1024) :
    ∃ i : Fin 272, firstMin x (ix2 0 q) = BitVec.ofNat 32 i.val ∧ ∀ j : Fin 272, x (ix2 i q) ≤ x (ix2 j q) := by
  have e : firstMin x (ix2 0 q) = Finset.fold IntOp.minsi 2147483647#32
      (fun i : Fin 272 => if x (ix2 i q) ≤ rowMin x (ix2 0 q) then BitVec.ofNat 32 i.val else 1073741824#32) Finset.univ := by
    pointwise [firstMin]
    exact Finset.fold_congr fun i _ => by rw [rowNo_apply]
  obtain ⟨le, mem⟩ := fold_minsi
    (fun i : Fin 272 => if x (ix2 i q) ≤ rowMin x (ix2 0 q) then BitVec.ofNat 32 i.val else 1073741824#32) 2147483647#32 Finset.univ
  rw [← e] at le mem
  obtain ⟨k, hk⟩ := rowMin_mem x q
  have small : (firstMin x (ix2 0 q)).toInt < 272 := by
    have := le k (Finset.mem_univ k)
    simp only [if_pos hk, toInt_row] at this
    have := k.isLt
    omega
  rcases mem with h | ⟨i, _, h⟩
  · rw [h] at small; exact absurd small (by decide)
  · by_cases hi : x (ix2 i q) ≤ rowMin x (ix2 0 q)
    · exact ⟨i, by simpa only [if_pos hi] using h, fun j => hi.trans (rowMin_le x j q)⟩
    · rw [if_neg hi] at h; rw [h] at small; exact absurd small (by decide)

/-- Striking out a smallest value lowers the column's counts by one. -/
theorem count_knock (x : FVec Ideal S272x1024 .f32) (q : Fin 1024) (t : EReal) (ht : t < ⊤) :
    count (fun i : Fin 272 => knock (⊤ : EReal) x (ix2 i q)) t = count (fun i : Fin 272 => x (ix2 i q)) t - 1 := by
  obtain ⟨i, hi, hmin⟩ := firstMin_spec x q
  rw [← count_update _ i hmin t ht]
  refine congrArg (fun f => count f t) (funext fun j => ?_)
  have e : knock (⊤ : EReal) x (ix2 j q)
      = Scalar.select (IntOp.cmpi .eq (rowNo (ix2 j q)) (firstMin x (ix2 0 q))) (⊤ : EReal) (x (ix2 j q)) := by
    pointwise [knock]
  rw [e, rowNo_apply, hi]
  by_cases h : j = i
  · subst h
    rw [if_pos rfl, IntOp.cmpi_eq_self]; rfl
  · rw [if_neg h]
    refine Scalar.select_of_ne_one ?_ _ _
    have ne : BitVec.ofNat 32 j.val ≠ BitVec.ofNat 32 i.val := fun h' => h (by
      have := congrArg BitVec.toInt h'
      rw [toInt_row, toInt_row] at this
      exact Fin.ext (by omega))
    show BitVec.ofBool (_ == _) ≠ 1
    rw [beq_eq_false_iff_ne.2 ne]
    decide

/-- Before any step the candidates are as they came. -/
theorem knocked_zero {F : FTy → Type} [FloatOps F] (big : F .f32) (x : FVec F S272x1024 .f32) : knocked big x 0 = x := rfl

/-- Each step knocks out the first smallest. -/
theorem knocked_succ {F : FTy → Type} [FloatOps F] (big : F .f32) (x : FVec F S272x1024 .f32) (n : ℕ) :
    knocked big x (n + 1) = knock big (knocked big x n) := rfl

/-- After `n` steps every count is lower by `n`, as far as it can be lowered. -/
theorem count_knocked (x : FVec Ideal S272x1024 .f32) (q : Fin 1024) (t : EReal) (ht : t < ⊤) (n : ℕ) :
    count (fun i : Fin 272 => knocked (⊤ : EReal) x n (ix2 i q)) t = count (fun i : Fin 272 => x (ix2 i q)) t - n := by
  induction n with
  | zero => rw [Nat.sub_zero, knocked_zero]
  | succ n ih => rw [knocked_succ, count_knock _ _ _ ht, ih]; omega

/-- After `n` are struck out the smallest left is the one numbered `n`. -/
theorem rowMin_knocked (x : FVec Ideal S272x1024 .f32) (q : Fin 1024) (n : ℕ) :
    IsNth (count fun i : Fin 272 => x (ix2 i q)) n (rowMin (knocked (⊤ : EReal) x n) (ix2 0 q)) := fun t ht =>
  (rowMin_nth (knocked (⊤ : EReal) x n) q t ht).trans (by rw [count_knocked x q t ht n]; omega)

/-- The first ten rows kept are the ten smallest in order. -/
theorem topRows_lo (x : FVec Ideal S272x1024 .f32) (q : Fin 1024) (k : Fin 16) (hk : k.val < 10) :
    topRows (⊤ : EReal) x (ix2 k q) = rowMin (knocked (⊤ : EReal) x k.val) (ix2 0 q) := by
  have := k.isLt
  obtain ⟨k, h⟩ := k
  interval_cases k <;> first | (exfalso; simp at hk; done) | (unfold topRows; pointwise)

/-- The rows from the tenth on are the big constant. -/
theorem topRows_hi (x : FVec Ideal S272x1024 .f32) (q : Fin 1024) (k : Fin 16) (hk : ¬ k.val < 10) :
    topRows (⊤ : EReal) x (ix2 k q) = ⊤ := by
  have := k.isLt
  obtain ⟨k, h⟩ := k
  interval_cases k <;> first | (exfalso; simp at hk; done) | (unfold topRows; pointwise)

end Cert.Proof.Side

end
-- ==== Proof.Dist.lean ====
/-
  The distances of a block, over the extended reals: where every entry is finite, a key's sum and a query's sum
  less twice the sum of the smaller coordinates is the sum of the coordinates' differences in absolute value.
-/
module

public import proofs.«01_k».proof.Proof.Spec
public import Idealize.ShloMosaic.Lib.Pointwise

@[expose] public section

noncomputable section

namespace Cert.Proof.Side

open Idealize.ShloMosaic Cert.KernelIdeal

/-- One coordinate's smaller values, at a key and a query. -/
theorem lane_apply (q : FVec Ideal S128x1024 .f32) (ch : FVec Ideal S32x128 .f32) (d : ℕ) (h : d < 128) (r : Fin 32) (c : Fin 1024) :
    lane q ch d h (ix2 r c) = min (ch (ix2 r ⟨d, h⟩)) (q (ix2 ⟨d, h⟩ c)) := by
  pointwise [lane]

/-- The running sum of the smaller coordinates, at a key and a query. -/
theorem laneSum_apply (q : FVec Ideal S128x1024 .f32) (ch : FVec Ideal S32x128 .f32) (r : Fin 32) (c : Fin 1024) (n : ℕ) (h : n < 128) :
    laneSum q ch n h (ix2 r c)
      = ∑ d : Fin (n + 1), (min (ch (ix2 r ⟨d.val, by omega⟩)) (q (ix2 ⟨d.val, by omega⟩ c)) : EReal) := by
  induction n with
  | zero => rw [Fin.sum_univ_one]; exact lane_apply ..
  | succ n ih =>
    rw [Fin.sum_univ_castSucc]
    exact congr (congrArg HAdd.hAdd (ih _)) (lane_apply ..)

/-- All 128 smaller coordinates added, at a key of the block and a query. -/
theorem mins_apply (b : FVec Ideal S256x128 .f32) (q : FVec Ideal S128x1024 .f32) (i : Fin 256) (c : Fin 1024) :
    mins b q (ix2 i c) = ∑ d : Fin 128, (min (b (ix2 i d)) (q (ix2 d c)) : EReal) := by
  have e : ∀ (k : ℕ) (hk : k < 8) (r : Fin 32) (hi : i.val = 32 * k + r.val),
      laneSum q (chunk b k hk) 127 (by decide) (ix2 r c) = ∑ d : Fin 128, (min (b (ix2 i d)) (q (ix2 d c)) : EReal) := by
    intro k hk r hi
    rw [laneSum_apply]
    refine Finset.sum_congr rfl fun d _ => ?_
    refine congrArg (fun x => min x _) ?_
    pointwise [chunk]
    exact congrArg (fun a => b (ix2 a d)) (Fin.ext hi.symm)
  pointwise [mins]
  split_ifs <;> exact e _ _ _ (by simp only []; omega)

/-- A key's coordinates added. -/
theorem keySum_apply (b : FVec Ideal S256x128 .f32) (i : Fin 256) : keySum b (ix2 i 0) = ∑ d : Fin 128, (b (ix2 i d) : EReal) := by
  pointwise [keySum]

/-- A query's coordinates added. -/
theorem querySum_apply (q : FVec Ideal S128x1024 .f32) (c : Fin 1024) : querySum q (ix2 0 c) = ∑ d : Fin 128, (q (ix2 d c) : EReal) := by
  pointwise [querySum]

/-- A block's distance is the two sums less twice the smaller coordinates' sum. -/
theorem dist_split (b : FVec Ideal S256x128 .f32) (q : FVec Ideal S128x1024 .f32) (i : Fin 256) (c : Fin 1024) :
    (dist b q (ix2 i c) : EReal) = (keySum b (ix2 i 0) + querySum q (ix2 0 c) : EReal) - (mins b q (ix2 i c) + mins b q (ix2 i c) : EReal) := by
  pointwise [dist]

/-- Two extended reals' difference in absolute value. -/
def away (x y : EReal) : EReal := max (x - y) (-(x - y))

/-- The absolute value of a difference, as a maximum of extended reals. -/
theorem absf_sub (x y : Ideal .f32) : FloatOps.absf (FloatOps.subf x y) = away x y := rfl

/-- Of reals it is the usual distance. -/
theorem away_coe (x y : ℝ) : away x y = ((|x - y| : ℝ) : EReal) := by
  unfold away
  rw [← EReal.coe_sub, ← EReal.coe_neg, abs_eq_max_neg]
  exact (EReal.coe_strictMono.monotone.map_max).symm

/-- A sum of reals, read as extended reals. -/
theorem sum_coe {n : ℕ} (f : Fin n → ℝ) : (∑ d, (f d : EReal)) = ((∑ d, f d : ℝ) : EReal) := by
  induction n with
  | zero => rfl
  | succ n ih => rw [Fin.sum_univ_castSucc, Fin.sum_univ_castSucc, ih, EReal.coe_add]

/-- Neither infinity. -/
def IsReal (x : EReal) : Prop := x ≠ ⊥ ∧ x ≠ ⊤

/-- Of two lists of finite numbers: both sums less twice the sum of the smaller ones is the sum of the differences. -/
theorem sum_away {n : ℕ} (u v : Fin n → EReal) (hu : ∀ d, IsReal (u d)) (hv : ∀ d, IsReal (v d)) :
    (∑ d, u d + ∑ d, v d) - (∑ d, min (u d) (v d) + ∑ d, min (u d) (v d)) = ∑ d, away (v d) (u d) := by
  obtain ⟨u, rfl⟩ : ∃ u' : Fin n → ℝ, u = fun d => (u' d : EReal) :=
    ⟨fun d => (u d).toReal, funext fun d => (EReal.coe_toReal (hu d).2 (hu d).1).symm⟩
  obtain ⟨v, rfl⟩ : ∃ v' : Fin n → ℝ, v = fun d => (v' d : EReal) :=
    ⟨fun d => (v d).toReal, funext fun d => (EReal.coe_toReal (hv d).2 (hv d).1).symm⟩
  have hm : ∀ d, min (u d : EReal) (v d) = ((min (u d) (v d) : ℝ) : EReal) := fun d =>
    (EReal.coe_strictMono.monotone.map_min).symm
  simp only [hm, away_coe, sum_coe, ← EReal.coe_add, ← EReal.coe_sub]
  refine congrArg _ ?_
  rw [← Finset.sum_add_distrib, ← Finset.sum_add_distrib, ← Finset.sum_sub_distrib]
  refine Finset.sum_congr rfl fun d _ => ?_
  rcases le_total (u d) (v d) with h | h
  · rw [min_eq_left h, abs_of_nonneg (by linarith)]; ring
  · rw [min_eq_right h, abs_of_nonpos (by linarith)]; ring

/-- Between finite values the distance is symmetric. -/
theorem away_comm {x y : EReal} (hx : IsReal x) (hy : IsReal y) : away x y = away y x := by
  lift x to ℝ using ⟨hx.2, hx.1⟩
  lift y to ℝ using ⟨hy.2, hy.1⟩
  rw [away_coe, away_coe, abs_sub_comm]

/-- A block's distance is the sum of the coordinates' differences. -/
theorem dist_apply (b : FVec Ideal S256x128 .f32) (q : FVec Ideal S128x1024 .f32) (i : Fin 256) (c : Fin 1024)
    (hb : ∀ d, IsReal (b (ix2 i d))) (hq : ∀ d, IsReal (q (ix2 d c))) :
    dist b q (ix2 i c) = ∑ d : Fin 128, away (q (ix2 d c)) (b (ix2 i d)) := by
  rw [← sum_away (fun d => b (ix2 i d)) (fun d => q (ix2 d c)) hb hq, ← keySum_apply, ← querySum_apply, ← mins_apply]
  exact dist_split b q i c

end Cert.Proof.Side

end
-- ==== Proof.Rows.lean ====
/-
  The running rows of the distance calls, over the extended reals: after all 64 blocks row `k < 10` of a column
  is the k-th smallest of the query's 16384 distances.
-/
module

public import proofs.«01_k».proof.Proof.Ten
public import proofs.«01_k».proof.Proof.Dist
public import proofs.«01_k».proof.Proof.Region1

@[expose] public section

noncomputable section

namespace Cert.Proof.Side

open Idealize.ShloMosaic Cert.KernelIdeal

/-- The idealized kernel's constant is `+∞`. -/
theorem bigC_ideal : bigC (F := Ideal) = (⊤ : EReal) := by
  unfold bigC
  exact IdealRules.named_const.ideal_named_scalar κ "big" _ ⊤ rfl

/-- The distance of query `c` to key `k`, the keys counted round. -/
def keyDist (A : FVec Ideal S16384x128 .f32) (q : FVec Ideal S128x1024 .f32) (c : Fin 1024) (k : ℕ) : EReal :=
  ∑ d : Fin 128, away (q (ix2 d c)) (A (ix2 ⟨k % 16384, Nat.mod_lt _ (by decide)⟩ d))

/-- Block `n` of the keys, at a row and a column. -/
theorem keyBlock_apply (A : FVec Ideal S16384x128 .f32) (n : ℕ) (i : Fin 256) (d : Fin 128) :
    keyBlock (F := Ideal) A n (ix2 i d) = A (ix2 ⟨(256 * n + i.val) % 16384, Nat.mod_lt _ (by decide)⟩ d) := by
  unfold keyBlock
  refine congrArg A (funext fun a => ?_)
  match a with
  | ⟨0, _⟩ => rfl
  | ⟨1, _⟩ => rfl

section
variable (A : FVec Ideal S16384x128 .f32) (q : FVec Ideal S128x1024 .f32) (hA : ∀ x, IsReal (A x)) (hq : ∀ x, IsReal (q x))
include hA hq

/-- A block's distances are those of its keys. -/
theorem dist_block (n : ℕ) (i : Fin 256) (c : Fin 1024) : dist (keyBlock (F := Ideal) A n) q (ix2 i c) = keyDist A q c (256 * n + i.val) :=
  (dist_apply (keyBlock (F := Ideal) A n) q i c (fun _ => hA _) (fun _ => hq _)).trans
    (Finset.sum_congr rfl fun d _ => congrArg (away (q (ix2 d c))) (keyBlock_apply A n i d))

/-- The rows after `n` blocks: the ten smallest distances of the first `256 n` keys, then `⊤`. -/
theorem rows_spec (c : Fin 1024) (n : ℕ) :
    (∀ i : Fin 16, i.val < 10 → IsNth (count fun k : Fin (256 * n) => keyDist A q c k.val) i.val (rows (F := Ideal) A q n (ix2 i c)))
      ∧ ∀ i : Fin 16, ¬ i.val < 10 → rows (F := Ideal) A q n (ix2 i c) = (⊤ : EReal) := by
  induction n with
  | zero =>
    have e : ∀ i : Fin 16, rows (F := Ideal) A q 0 (ix2 i c) = (⊤ : EReal) := fun i => by
      show fresh bigC (ix2 i c) = _
      rw [bigC_ideal]
      unfold fresh
      rw [shapeCast_id]; rfl
    refine ⟨fun i _ t ht => ?_, fun i _ => e i⟩
    rw [e i]
    exact ⟨fun h => absurd h (not_le.2 ht), fun h => absurd h (by simp [count])⟩
  | succ n ih =>
    have e : rows (F := Ideal) A q (n + 1) = topRows (⊤ : EReal)
        (concatenate S272x1024 0 [⟨S256x1024, dist (keyBlock (F := Ideal) A n) q⟩, ⟨S16x1024, rows (F := Ideal) A q n⟩] catCand) := by
      show merge bigC (keyBlock (F := Ideal) A n) q (rows (F := Ideal) A q n) = _
      rw [bigC_ideal]
      unfold merge
      rw [shapeCast_id, shapeCast_id]
    rw [e]
    generalize hX : concatenate S272x1024 0 [⟨S256x1024, dist (keyBlock (F := Ideal) A n) q⟩, ⟨S16x1024, rows (F := Ideal) A q n⟩] catCand = X
    have lo : ∀ i : Fin 256, X (ix2 ⟨i.val, by omega⟩ c) = keyDist A q c (256 * n + i.val) := fun i => by
      rw [← hX, ← dist_block A q hA hq]; pointwise
    have hi : ∀ i : Fin 16, X (ix2 ⟨256 + i.val, by omega⟩ c) = rows (F := Ideal) A q n (ix2 i c) := fun i => by
      rw [← hX]; pointwise
    have cnt : ∀ t < ⊤, count (fun i : Fin 272 => X (ix2 i c)) t
        = count (fun i : Fin 256 => keyDist A q c (256 * n + i.val)) t
          + min 10 (count (fun k : Fin (256 * n) => keyDist A q c k.val) t) := fun t ht => by
      rw [count_two (a := 256) (b := 16) rfl, ← count_ten (fun i => rows (F := Ideal) A q n (ix2 i c)) _ ih.1 ih.2 t ht]
      simp only [lo, hi]
    refine ⟨fun i h t ht => ?_, fun i h => topRows_hi X c i h⟩
    rw [topRows_lo X c i h, rowMin_knocked X c i.val t ht, cnt t ht, count_two (N := 256 * (n + 1)) (a := 256 * n) (b := 256) rfl]
    dsimp only
    omega

/-- The ten rows the loss reads are the ten smallest distances in order. -/
theorem firstTen_rows (c : Fin 1024) (k : Fin 10) :
    IsNth (count fun i : Fin 16384 => keyDist A q c i.val) k.val (firstTen (rows (F := Ideal) A q 64) (ix2 k c)) := by
  have h := (rows_spec A q hA hq c 64).1 ⟨k.val, by omega⟩ k.isLt
  have e : firstTen (rows (F := Ideal) A q 64) (ix2 k c) = rows (F := Ideal) A q 64 (ix2 ⟨k.val, by omega⟩ c) := by
    unfold firstTen
    refine congrArg (rows (F := Ideal) A q 64) ?_
    funext a
    match a with
    | ⟨0, _⟩ => exact Fin.ext (by show 0 + 1 * k.val = k.val; omega)
    | ⟨1, _⟩ => exact Fin.ext (by show 0 + 1 * c.val = c.val; omega)
  rw [e]; exact h
end

end Cert.Proof.Side

end
-- ==== Proof.Ref.lean ====
/-
  The reference's value: its steps named, and what each is at an index over the extended reals.
-/
module

public import proofs.«01_k».proof.Proof.Gen.ReferenceIdeal.Run
public import proofs.«01_k».proof.Proof.Dist
public import proofs.«01_k».proof.Proof.Count
public import Idealize.ShloMosaic.Lib.SortFacts

@[expose] public section

noncomputable section

namespace Cert.Proof.Ref

open Idealize.ShloMosaic Idealize.ShloMosaic.TcCoe Cert.ReferenceIdeal Cert.ReferenceIdeal.Gen Cert.Proof.Side

section Steps

variable {F : FTy → Type} [FloatOps F]

/-- A row number, a negative one counted from the table's end. -/
def wrap (J : IVec S1024 32) : IVec S1024 32 :=
  select (cmpi .slt J (broadcastInDim S1024 ![] bcast_S_S1024 (constantI S_ 32 0#32)))
    (addi J (broadcastInDim S1024 ![] bcast_S_S1024 (constantI S_ 32 16384#32))) J

/-- The same for ten row numbers a query. -/
def wrap10 (J : IVec S1024x10 32) : IVec S1024x10 32 :=
  select (cmpi .slt J (broadcastInDim S1024x10 ![] bcast_S_S1024x10 (constantI S_ 32 0#32)))
    (addi J (broadcastInDim S1024x10 ![] bcast_S_S1024x10 (constantI S_ 32 16384#32))) J

/-- One row of the table for each query. -/
def pick (X : FVec F S16384x128 .f32) (J : IVec S1024 32) : FVec F S1024x128 .f32 :=
  Host.gather gather_S16384x128_S1024x1_S1024x128_1_0_n_n_0_1_1128 X (broadcastInDim S1024x1 ![0] bcast_S1024_S1024x1_0 (wrap J))

/-- Ten rows of the table for each query. -/
def pick10 (X : FVec F S16384x128 .f32) (J : IVec S1024x10 32) : FVec F S1024x10x128 .f32 :=
  Host.gather gather_S16384x128_S1024x10x1_S1024x10x128_2_0_n_n_0_2_1128 X
    (broadcastInDim S1024x10x1 ![0, 1] bcast_S1024x10_S1024x10x1_0_1 (wrap10 J))

/-- The distance of every query to every row. -/
def allDist (Q : FVec F S1024x128 .f32) (X : FVec F S16384x128 .f32) : FVec F S1024x16384 .f32 :=
  Host.reduceAdd (Host.absf (subf
      (broadcastInDim S1024x16384x128 ![0, 1, 2] bcast_S1024x1x128_S1024x16384x128_0_1_2
        (broadcastInDim S1024x1x128 ![0, 2] bcast_S1024x128_S1024x1x128_0_2 Q))
      (broadcastInDim S1024x16384x128 ![0, 1, 2] bcast_S1x16384x128_S1024x16384x128_0_1_2
        (broadcastInDim S1x16384x128 ![1, 2] bcast_S16384x128_S1x16384x128_1_2 X))))
    (constant S_ .f32 0x00000000#32) reducesTo_S1024x16384x128_S1024x16384_d2 h_S_

/-- The ten nearest rows of every query, nearest first. -/
def nearest (D : FVec F S1024x16384 .f32) : IVec S1024x10 32 :=
  (Host.topK S1024x10 1 (FloatOps.cmpfTotal .gt) (Host.negf D) sliceFits_S1024x16384_S1024x10).2

/-- One more than the distance of the two rows of each pair. -/
def pairDist (P Q : FVec F S1024x128 .f32) : FVec F S1024 .f32 :=
  addf (Host.reduceAdd (Host.absf (subf P Q)) (constant S_ .f32 0x00000000#32) reducesTo_S1024x128_S1024_d1 h_S_)
    (broadcastInDim S1024 ![] bcast_S_S1024 (constant S_ .f32 0x3F800000#32))

/-- The distances of each query to its ten rows. -/
def tenDist (Q : FVec F S1024x128 .f32) (N : FVec F S1024x10x128 .f32) : FVec F S1024x10 .f32 :=
  Host.reduceAdd (Host.absf (subf
      (broadcastInDim S1024x10x128 ![0, 1, 2] bcast_S1024x1x128_S1024x10x128_0_1_2
        (broadcastInDim S1024x1x128 ![0, 2] bcast_S1024x128_S1024x1x128_0_2 Q)) N))
    (constant S_ .f32 0x00000000#32) reducesTo_S1024x10x128_S1024x10_d2 h_S_

/-- The sum over queries and their ten rows of what the pair's distance and one exceed the row's distance by. -/
def excess (D : FVec F S1024 .f32) (E : FVec F S1024x10 .f32) : FVec F S_ .f32 :=
  Host.reduceAdd (maximumf (addf
      (broadcastInDim S1024x10 ![0, 1] bcast_S1024x1_S1024x10_0_1 (broadcastInDim S1024x1 ![0] bcast_S1024_S1024x1_0 D)) (Host.negf E))
      (broadcastInDim S1024x10 ![] bcast_S_S1024x10 (constant S_ .f32 0x00000000#32)))
    (constant S_ .f32 0x00000000#32) reducesTo_S1024x10_S_d0_1 h_S_

/-- One side's sum: the queries `Q` against the rows of `X`. -/
def side (D : FVec F S1024 .f32) (Q : FVec F S1024x128 .f32) (X : FVec F S16384x128 .f32) : FVec F S_ .f32 :=
  excess D (tenDist Q (pick10 X (nearest (allDist Q X))))

/-- The whole of it, of the two tables and the two lists of row numbers. -/
def whole (X Y : FVec F S16384x128 .f32) (I J : IVec S1024 32) : FVec F S_ .f32 :=
  Host.divf (addf (side (pairDist (pick X I) (pick Y J)) (pick X I) Y) (side (pairDist (pick X I) (pick Y J)) (pick Y J) X))
    (constant S_ .f32 0x46200000#32)

/-- The reference's result is these steps of its arguments. -/
theorem res_eq (m : (ℓ : Loc nD τ sig) → Buf (Elt F) ℓ) (c : Dev nD) :
    Cert.ReferenceIdeal.Value.res_main_v74 m c
      = whole (m ((c.tc : Thread nD τ).loc main_arg0)) (m ((c.tc : Thread nD τ).loc main_arg1))
          (m ((c.tc : Thread nD τ).loc main_arg2)) (m ((c.tc : Thread nD τ).loc main_arg3)) := rfl

end Steps

/-- A row number in range is the same read signed. -/
theorem toInt_small (v : BitVec 32) (h : v.toNat < 16384) : v.toInt = v.toNat := by
  rw [BitVec.toInt_eq_toNat_cond, if_pos (by omega)]

/-- A row number in range is not negative. -/
theorem not_neg (v : BitVec 32) (h : v.toNat < 16384) : IntOp.cmpi .slt v 0#32 = 0#1 := by
  have : v.slt 0#32 = false := by
    rw [BitVec.slt, toInt_small v h]
    simp
  simp [IntOp.cmpi, this]

/-- A row number in range is left as it is. -/
theorem wrap_apply (J : IVec S1024 32) (h : ∀ j, (J j).toNat < 16384) : wrap J = J := by
  funext j
  show (if IntOp.cmpi .slt (J j) 0#32 = 1#1 then _ else J j) = J j
  rw [not_neg _ (h j), if_neg (by decide)]

/-- The same of ten row numbers a query. -/
theorem wrap10_apply (J : IVec S1024x10 32) (h : ∀ j, (J j).toNat < 16384) : wrap10 J = J := by
  funext j
  show (if IntOp.cmpi .slt (J j) 0#32 = 1#1 then _ else J j) = J j
  rw [not_neg _ (h j), if_neg (by decide)]

/-- The row picked for a query, at a column. -/
theorem pick_apply (X : FVec Ideal S16384x128 .f32) (J : IVec S1024 32) (h : ∀ j, (J j).toNat < 16384) (r : Fin 1024) (d : Fin 128) :
    pick X J (ix2 r d) = X (ix2 ⟨(J (ix1 r)).toNat, h _⟩ d) := by
  unfold pick
  rw [wrap_apply J h]
  refine congrArg X (funext fun a => Fin.ext ?_)
  match a with
  | ⟨0, _⟩ =>
    show min (J _).toInt.toNat 16383 + 0 + 0 = (J (ix1 r)).toNat
    have e : ∀ v : BitVec 32, v.toNat < 16384 → min v.toInt.toNat 16383 + 0 + 0 = v.toNat := fun v hv => by
      rw [toInt_small v hv]; omega
    refine (e _ (h _)).trans (congrArg (fun j => (J j).toNat) (funext fun b => ?_))
    match b with
    | ⟨0, _⟩ => rfl
  | ⟨1, _⟩ => exact (Nat.zero_add _)

/-- The row picked for a query at a place among its ten, at a column. -/
theorem pick10_apply (X : FVec Ideal S16384x128 .f32) (J : IVec S1024x10 32) (h : ∀ j, (J j).toNat < 16384) (r : Fin 1024) (k : Fin 10)
    (d : Fin 128) : pick10 X J (ix3 r k d) = X (ix2 ⟨(J (ix2 r k)).toNat, h _⟩ d) := by
  unfold pick10
  rw [wrap10_apply J h]
  refine congrArg X (funext fun a => Fin.ext ?_)
  match a with
  | ⟨0, _⟩ =>
    show min (J _).toInt.toNat 16383 + 0 + 0 = (J (ix2 r k)).toNat
    have e : ∀ v : BitVec 32, v.toNat < 16384 → min v.toInt.toNat 16383 + 0 + 0 = v.toNat := fun v hv => by
      rw [toInt_small v hv]; omega
    refine (e _ (h _)).trans (congrArg (fun j => (J j).toNat) (funext fun b => ?_))
    match b with
    | ⟨0, _⟩ => rfl
    | ⟨1, _⟩ => rfl
  | ⟨1, _⟩ => exact (Nat.zero_add _)

/-- The distance of query `r` to row `k`. -/
def rowDist (Q : FVec Ideal S1024x128 .f32) (X : FVec Ideal S16384x128 .f32) (r : Fin 1024) (k : Fin 16384) : EReal :=
  ∑ d : Fin 128, away (Q (ix2 r d)) (X (ix2 k d))

/-- The distance of every query to every row is that row's distance. -/
theorem allDist_apply (Q : FVec Ideal S1024x128 .f32) (X : FVec Ideal S16384x128 .f32) (r : Fin 1024) (k : Fin 16384) :
    allDist Q X (ix2 r k) = rowDist Q X r k := by
  pointwise [allDist]
  rfl

/-- The distance of a query to a row of its ten, over the row's columns. -/
theorem tenDist_apply (Q : FVec Ideal S1024x128 .f32) (N : FVec Ideal S1024x10x128 .f32) (r : Fin 1024) (k : Fin 10) :
    tenDist Q N (ix2 r k) = ∑ d : Fin 128, away (Q (ix2 r d)) (N (ix3 r k d)) := by
  pointwise [tenDist]
  rfl

/-- The distance of a pair and one, over the columns. -/
theorem pairDist_apply (P Q : FVec Ideal S1024x128 .f32) (r : Fin 1024) :
    pairDist P Q (ix1 r) = (∑ d : Fin 128, away (P (ix2 r d)) (Q (ix2 r d))) + FloatOps.ofBits (F := Ideal) .f32 0x3F800000#32 := by
  pointwise [pairDist]
  rfl

/-- The sum of the excesses, over queries and places. -/
theorem excess_apply (D : FVec Ideal S1024 .f32) (E : FVec Ideal S1024x10 .f32) (i : S_.Idx) :
    excess D E i = ∑ r : Fin 1024, ∑ k : Fin 10, (max (D (ix1 r) + -E (ix2 r k)) 0 : EReal) := by
  pointwise [excess]

/-- The order in which the rows of one query are listed. -/
def order (D : FVec Ideal S1024x16384 .f32) (r : Fin 1024) : Fin 16384 → Fin 16384 :=
  sortedFrom fun k k' => decide ((D (ix2 r k) : EReal) < D (ix2 r k'))

/-- The order lists every row once. -/
theorem order_bijective (D : FVec Ideal S1024x16384 .f32) (r : Fin 1024) : Function.Bijective (order D r) :=
  ⟨sortedFrom_injective _, sortedFrom_surjective _⟩

/-- The order lists rows by increasing distance. -/
theorem order_mono (D : FVec Ideal S1024x16384 .f32) (r : Fin 1024) (i j : Fin 16384) (h : i < j) :
    (D (ix2 r (order D r i)) : EReal) ≤ D (ix2 r (order D r j)) := by
  have := sortedFrom_noInversion (fun k k' => decide ((D (ix2 r k) : EReal) < D (ix2 r k'))) _
    (fun a b h => by simp only [decide_eq_true_eq, decide_eq_false_iff_not] at h ⊢; exact h.le.not_gt) (fun a b h => h)
    (fun a b c h1 h2 => by simp only [decide_eq_false_iff_not, not_lt] at h1 h2 ⊢; exact h2.trans h1) i j h
  exact not_lt.1 (of_decide_eq_false this)

/-- Row `r`, at another column. -/
theorem along_row (r : Fin 1024) (j k : Fin 16384) : Shape.Idx.along (s := S1024x16384) (ix2 r j) 1 k = ix2 r k := by
  funext a
  match a with
  | ⟨0, _⟩ => rfl
  | ⟨1, _⟩ => rfl

/-- The column numbers, at a column. -/
theorem iota_along (j : S1024x16384.Idx) (k : Fin 16384) : iotaInDim S1024x16384 32 1 (j.along 1 k) = BitVec.ofNat 32 k.val :=
  congrArg (fun n : Fin 16384 => BitVec.ofNat 32 n.val) (Function.update_self (β := fun a => Fin (S1024x16384.size a)) 1 k j)

/-- The row listed at place `k` is the order's. -/
theorem nearest_apply (D : FVec Ideal S1024x16384 .f32) (r : Fin 1024) (k : Fin 10) :
    nearest D (ix2 r k) = BitVec.ofNat 32 (order D r ⟨k.val, by omega⟩).val := by
  have e : (fun a b : Fin 16384 => FloatOps.cmpfTotal (F := Ideal) (φ := .f32) .gt (Host.negf D (Shape.Idx.along (s := S1024x16384) (ix2 r ⟨k.val, by omega⟩) 1 a))
      (Host.negf D (Shape.Idx.along (s := S1024x16384) (ix2 r ⟨k.val, by omega⟩) 1 b)) == 1#1)
      = fun a b => decide ((D (ix2 r a) : EReal) < D (ix2 r b)) := by
    funext a b
    rw [along_row, along_row]
    show (BitVec.ofBool (decide ((-(D (ix2 r b)) : EReal) < -(D (ix2 r a)))) == 1#1) = _
    simp only [EReal.neg_lt_neg_iff]
    cases decide ((D (ix2 r a) : EReal) < D (ix2 r b)) <;> rfl
  have at_ : ∀ v : IVec S1024x16384 32, extractStridedSlice S1024x10 (fun _ => 0) v sliceFits_S1024x16384_S1024x10 (ix2 r k)
      = v (ix2 r ⟨k.val, by omega⟩) := fun v => congrArg v (funext fun a => Fin.ext (by
    match a with
    | ⟨0, _⟩ => exact Nat.zero_add _
    | ⟨1, _⟩ => exact Nat.zero_add _))
  unfold nearest order Host.topK
  dsimp only
  rw [at_, ← e]
  unfold Host.sort2
  rw [dif_pos (by decide)]
  dsimp only
  rw [dif_pos (by decide)]
  exact iota_along _ _

/-- The distance of query `r` to the row listed at `k` among its ten nearest. -/
def ten (Q : FVec Ideal S1024x128 .f32) (X : FVec Ideal S16384x128 .f32) (r : Fin 1024) (k : Fin 10) : EReal :=
  rowDist Q X r (order (allDist Q X) r ⟨k.val, by omega⟩)

/-- It is the `k`-th smallest of the query's distances. -/
theorem ten_spec (Q : FVec Ideal S1024x128 .f32) (X : FVec Ideal S16384x128 .f32) (r : Fin 1024) (k : Fin 10) :
    IsNth (count (rowDist Q X r)) k.val (ten Q X r k) := by
  refine isNth_sorted (rowDist Q X r) (order (allDist Q X) r) (order_bijective _ r) (fun i j h => ?_) ⟨k.val, by omega⟩
  have := order_mono (allDist Q X) r i j h
  rwa [allDist_apply, allDist_apply] at this

/-- The distances to the ten nearest rows are those of the order. -/
theorem tenDist_nearest (Q : FVec Ideal S1024x128 .f32) (X : FVec Ideal S16384x128 .f32) (r : Fin 1024) (k : Fin 10) :
    tenDist Q (pick10 X (nearest (allDist Q X))) (ix2 r k) = ten Q X r k := by
  have num : ∀ n : Fin 16384, (BitVec.ofNat 32 n.val).toNat = n.val := fun n => by
    rw [BitVec.toNat_ofNat, Nat.mod_eq_of_lt (by omega)]
  have inr : ∀ (r : Fin 1024) (k : Fin 10), (nearest (allDist Q X) (ix2 r k)).toNat < 16384 := fun r k => by
    rw [nearest_apply, num]
    exact Fin.isLt _
  have inr : ∀ j, (nearest (allDist Q X) j).toNat < 16384 := fun j => by
    have : (ix2 (j 0) (j 1) : S1024x10.Idx) = j := funext fun a => by match a with | ⟨0, _⟩ => rfl | ⟨1, _⟩ => rfl
    exact this ▸ inr (j 0) (j 1)
  rw [tenDist_apply]
  unfold ten rowDist
  refine Finset.sum_congr rfl fun d _ => ?_
  rw [pick10_apply X _ inr]
  refine congrArg (fun n => away (Q (ix2 r d)) (X (ix2 n d))) (Fin.ext ?_)
  show (nearest (allDist Q X) (ix2 r k)).toNat = _
  rw [nearest_apply, num]

/-- One side's sum at the extended reals. -/
theorem side_apply (D : FVec Ideal S1024 .f32) (Q : FVec Ideal S1024x128 .f32) (X : FVec Ideal S16384x128 .f32) (i : S_.Idx) :
    side D Q X i = ∑ r : Fin 1024, ∑ k : Fin 10, (max (D (ix1 r) + -ten Q X r k) 0 : EReal) := by
  unfold side
  rw [excess_apply]
  simp only [tenDist_nearest]

end Cert.Proof.Ref

end
-- ==== Proof.Values.lean ====
/-
  The two results agree: the kernel's answer, over the extended reals, is the reference's of the same arguments.
-/
module

public import proofs.«01_k».proof.Proof.Finite
public import proofs.«01_k».proof.Proof.Rows
public import proofs.«01_k».proof.Proof.Ref

@[expose] public section

noncomputable section

namespace Cert.Proof.Side

open Idealize.ShloMosaic Idealize.SL.Sem Cert.KernelIdeal Cert.KernelIdeal.Gen

/-- The margin of a query: the distance of its pair, and one. -/
theorem margin_apply (q p : FVec Ideal S128x1024 .f32) (c : Fin 1024) :
    margin q p (ix2 0 c) = (∑ d : Fin 128, away (q (ix2 d c)) (p (ix2 d c))) + FloatOps.ofBits (F := Ideal) .f32 0x3F800000#32 := by
  pointwise [margin]
  rfl

/-- A side's loss, over queries and places. -/
theorem loss_apply (q p : FVec Ideal S128x1024 .f32) (t : FVec Ideal S10x1024 .f32) :
    loss q p t (ix2 0 0) = ∑ c : Fin 1024, ∑ k : Fin 10, (max (margin q p (ix2 0 c) + -t (ix2 k c)) 0 : EReal) := by
  pointwise [loss]
  rfl

/-- The gathered rows as the distance calls take them: a query a column. -/
abbrev columns (Q : FVec Ideal S1024x128 .f32) : FVec Ideal S128x1024 .f32 :=
  transpose S128x1024 [1, 0] Q transposes_S1024x128_S128x1024_1_0

/-- A query's column holds its coordinates. -/
theorem columns_apply (Q : FVec Ideal S1024x128 .f32) (d : Fin 128) (c : Fin 1024) : columns Q (ix2 d c) = Q (ix2 c d) := by
  pointwise [columns]

/-- A distance call's sum is the reference's sum of the same side. -/
theorem sideLoss_eq (A : FVec Ideal S16384x128 .f32) (Q P : FVec Ideal S1024x128 .f32) (D : FVec Ideal S1024 .f32)
    (hA : ∀ x, IsReal (A x)) (hQ : ∀ x, IsReal (Q x))
    (hD : ∀ c, D (ix1 c) = (∑ d : Fin 128, away (Q (ix2 c d)) (P (ix2 c d))) + FloatOps.ofBits (F := Ideal) .f32 0x3F800000#32)
    (i : S_.Idx) : sideLoss (F := Ideal) A (columns Q) (columns P) (ix2 0 0) = Ref.side D Q A i := by
  have key : ∀ (c : Fin 1024), (fun k : Fin 16384 => keyDist A (columns Q) c k.val) = Ref.rowDist Q A c := fun c => by
    funext k
    unfold keyDist Ref.rowDist
    refine Finset.sum_congr rfl fun d _ => ?_
    rw [columns_apply]
    refine congrArg (fun n => away (Q (ix2 c d)) (A (ix2 n d))) (Fin.ext ?_)
    exact Nat.mod_eq_of_lt k.isLt
  rw [Ref.side_apply]
  unfold sideLoss
  rw [loss_apply]
  refine Finset.sum_congr rfl fun c _ => Finset.sum_congr rfl fun k _ => ?_
  have h := firstTen_rows A (columns Q) hA (fun x => hQ _) c k
  rw [key] at h
  rw [h.unique (Ref.ten_spec Q A c k), margin_apply, hD]
  simp only [columns_apply]

/-- The gather call's rows are the reference's, of row numbers in range. -/
theorem gatherRows_eq (X : FVec Ideal S16384x128 .f32) (J : IVec S1024 32) (h : ∀ j, (J j).toNat < 16384) :
    gatherRows (F := Ideal) X J = Ref.pick X J := by
  funext x
  have e : (ix2 (x 0) (x 1) : S1024x128.Idx) = x := funext fun a => by match a with | ⟨0, _⟩ => rfl | ⟨1, _⟩ => rfl
  refine Eq.trans ?_ ((Ref.pick_apply X J h (x 0) (x 1)).symm.trans (congrArg (Ref.pick X J) e))
  have e0 : lstIx (x 0) = ix1 (x 0) := funext fun a => by match a with | ⟨0, _⟩ => rfl
  unfold gatherRows
  refine congrArg X (funext fun a => ?_)
  match a with
  | ⟨0, _⟩ =>
    refine Fin.ext ?_
    show (J (lstIx (x 0))).toNat % 16384 = _
    rw [e0]
    exact Nat.mod_eq_of_lt (h _)
  | ⟨1, _⟩ => rfl

/-- The kernel's arithmetic, of the tables and the gathered rows. -/
def total (X Y : FVec Ideal S16384x128 .f32) (P Q : FVec Ideal S1024x128 .f32) : FVec Ideal S_ .f32 :=
  Host.divf (addf (shapeCast S_ (sideLoss (F := Ideal) Y (columns P) (columns Q)) shapeCasts_S1x1_S_)
      (shapeCast S_ (sideLoss (F := Ideal) X (columns Q) (columns P)) shapeCasts_S1x1_S_))
    (constant S_ .f32 0x46200000#32)

/-- Of finite tables and row numbers in range it is the reference's. -/
theorem total_eq (X Y : FVec Ideal S16384x128 .f32) (I J : IVec S1024 32) (hI : ∀ j, (I j).toNat < 16384) (hJ : ∀ j, (J j).toNat < 16384)
    (hX : ∀ x, IsReal (X x)) (hY : ∀ x, IsReal (Y x)) :
    total X Y (gatherRows (F := Ideal) X I) (gatherRows (F := Ideal) Y J) = Ref.whole X Y I J := by
  have hP : ∀ x, IsReal (Ref.pick X I x) := fun x => by rw [← gatherRows_eq X I hI]; exact hX _
  have hQ : ∀ x, IsReal (Ref.pick Y J x) := fun x => by rw [← gatherRows_eq Y J hJ]; exact hY _
  rw [gatherRows_eq X I hI, gatherRows_eq Y J hJ]
  unfold total Ref.whole
  have cast : ∀ v : FVec Ideal S1x1 .f32, shapeCast S_ v shapeCasts_S1x1_S_ = fun _ => v (ix2 0 0) := fun v => by
    funext i
    pointwise
  rw [cast, cast]
  congr 2
  · funext i
    exact sideLoss_eq Y _ _ _ hY hP (fun c => Ref.pairDist_apply _ _ c) i
  · funext i
    refine sideLoss_eq X _ _ _ hX hQ (fun c => (Ref.pairDist_apply _ _ c).trans ?_) i
    exact congrArg (· + _) (Finset.sum_congr rfl fun d _ => away_comm (hP _) (hQ _))

/-- The kernel's result is that arithmetic of the rows the gather call brings. -/
theorem answer_eq (m : (ℓ : Loc nD τ sig) → Buf (Elt Ideal) ℓ) (d : Dev nD) :
    answer m d = total (m (at_ d main_arg0)) (m (at_ d main_arg1)) (rows1 m d) (rows2 m d) := by
  unfold answer total out1 out2 columns
  rw [show ofTc (W2 m) d main_v1 = _ from W2_v1 m d, show ofTc (W2 m) d main_v2 = _ from W2_v2 m d,
    show ofTc (W2 m) d main_arg0 = _ from W2_arg m d main_arg0 (by decide), show ofTc (W2 m) d main_arg1 = _ from W2_arg m d main_arg1 (by decide)]

/-- The kernel with its constant named computes the reference's value. -/
theorem algebraic : Cert.algebraic_KernelIdeal_ReferenceIdeal_pre_finite_in_range (hKernelIdeal := Cert.KernelIdeal.Gen.facts)
    (hReferenceIdeal := Cert.ReferenceIdeal.Gen.facts) (hPre_finite_in_range := finite_facts) := by
  intro m ρ m' ρ' hpre hagree
  have hp := fun d => ok_of_finite _ _ _ _ (hpre d)
  refine ⟨answer m, (θ_run (Cert.KernelIdeal.defs (F := Ideal)) _ _).mono (fun _ h => h.1) (run_main (F := Ideal) m ρ fun d => (hp d).1),
    (θ_run (Cert.ReferenceIdeal.defs (F := Ideal)) _ _).mono (fun _ h c => ⟨(h c).1.trans ?_, (h c).2⟩)
      (Cert.ReferenceIdeal.Value.run (F := Ideal) m' ρ')⟩
  obtain ⟨h0, h1, h2, h3⟩ := hagree c
  obtain ⟨⟨hI, hJ⟩, hX, hY⟩ := hp c
  rw [Ref.res_eq, answer_eq]
  refine Eq.trans ?_ (total_eq _ _ _ _ hI hJ hX hY).symm
  rw [h0, h1, h2, h3]

end Cert.Proof.Side

end
-- ==== Proof.lean ====
/- The whole claim: the frames of the kernel as written, of the kernel with its constant named and of the reference,
   that naming the constant is all that sets the two kernels apart, and that kernel and reference compute the same value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts, Side.range_facts, Side.finite_facts,
    Side.frame_p, Side.frame_pi, Side.frame_pi_finite, Side.frame_ri, Side.frame_ri_finite, Side.preserves, Side.algebraic⟩

end Cert.Proof

end
